-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x3072 : Shape := ⟨3, ![4, 2048, 3072]⟩
abbrev S3072x3072 : Shape := ⟨2, ![3072, 3072]⟩
abbrev S3072 : Shape := ⟨1, ![3072]⟩
abbrev S8192x3072 : Shape := ⟨2, ![8192, 3072]⟩
abbrev S1x3072 : Shape := ⟨2, ![1, 3072]⟩
abbrev S8192x1536 : Shape := ⟨2, ![8192, 1536]⟩
abbrev S768x128 : Shape := ⟨2, ![768, 128]⟩
abbrev S64x128 : Shape := ⟨2, ![64, 128]⟩
abbrev S512x3072 : Shape := ⟨2, ![512, 3072]⟩
abbrev S512x1536 : Shape := ⟨2, ![512, 1536]⟩
abbrev S2x512x3072 : Shape := ⟨3, ![2, 512, 3072]⟩
abbrev S2x512x128 : Shape := ⟨3, ![2, 512, 128]⟩
abbrev S512 : Shape := ⟨1, ![512]⟩
abbrev S512x1 : Shape := ⟨2, ![512, 1]⟩
abbrev S1x256 : Shape := ⟨2, ![1, 256]⟩
abbrev S512x256 : Shape := ⟨2, ![512, 256]⟩
abbrev S1x512x3072 : Shape := ⟨3, ![1, 512, 3072]⟩
abbrev S512x128 : Shape := ⟨2, ![512, 128]⟩
abbrev S1x512x128 : Shape := ⟨3, ![1, 512, 128]⟩
abbrev S128x128 : Shape := ⟨2, ![128, 128]⟩
abbrev S128 : Shape := ⟨1, ![128]⟩
abbrev S1x128 : Shape := ⟨2, ![1, 128]⟩
abbrev S3072x256 : Shape := ⟨2, ![3072, 256]⟩

abbrev nBuf : Space → Nat
  | .hbm => 9
  | .vmem => 13
  | .smem => 0
  | _ => 0

abbrev bufTy : (tb : Table) → Fin (tcTables nBuf tb) → BufTy
  | .hbm, ⟨0, _⟩ => ⟨S4x2048x3072, .bf16⟩
  | .hbm, ⟨1, _⟩ => ⟨S3072x3072, .fp8e4m3⟩
  | .hbm, ⟨2, _⟩ => ⟨S3072, .f32⟩
  | .hbm, ⟨3, _⟩ => ⟨S8192x3072, .bf16⟩
  | .hbm, ⟨4, _⟩ => ⟨S1x3072, .f32⟩
  | .hbm, ⟨5, _⟩ => ⟨S8192x1536, .fp8e4m3⟩
  | .hbm, ⟨6, _⟩ => ⟨S768x128, .f32⟩
  | .hbm, ⟨7, _⟩ => ⟨S8192x3072, .fp8e4m3⟩
  | .hbm, ⟨8, _⟩ => ⟨S64x128, .f32⟩
  | .local _ .vmem, ⟨0, _⟩ => ⟨S512x3072, .bf16⟩
  | .local _ .vmem, ⟨1, _⟩ => ⟨S512x3072, .bf16⟩
  | .local _ .vmem, ⟨2, _⟩ => ⟨S512x3072, .bf16⟩
  | .local _ .vmem, ⟨3, _⟩ => ⟨S3072x3072, .fp8e4m3⟩
  | .local _ .vmem, ⟨4, _⟩ => ⟨S1x3072, .f32⟩
  | .local _ .vmem, ⟨5, _⟩ => ⟨S512x1536, .fp8e4m3⟩
  | .local _ .vmem, ⟨6, _⟩ => ⟨S512x1536, .fp8e4m3⟩
  | .local _ .vmem, ⟨7, _⟩ => ⟨S768x128, .f32⟩
  | .local _ .vmem, ⟨8, _⟩ => ⟨S512x3072, .fp8e4m3⟩
  | .local _ .vmem, ⟨9, _⟩ => ⟨S512x3072, .fp8e4m3⟩
  | .local _ .vmem, ⟨10, _⟩ => ⟨S64x128, .f32⟩
  | .local _ .vmem, ⟨11, _⟩ => ⟨S2x512x3072, .fp8e4m3⟩
  | .local _ .vmem, ⟨12, _⟩ => ⟨S2x512x128, .f32⟩
  | _, _ => ⟨S4x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c2_i32 : BitVec 32 := 2#32
  let v0 : BitVec 32 := Scalar.remsi arg0 c2_i32
  let v6 : Index := Scalar.indexCast v0
  let c0 : Index := 0#32
  let c0_2 : Index := 0#32
  ![v6.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v10 : Index := Scalar.indexCast v0
  let c0_5 : Index := 0#32
  let c0_6 : Index := 0#32
  ![v10.toNat, 0, 0]
def k0_off3 (i : grid0.Coords) (c0_i32_8 : BitVec 32) : Fin 2 → Nat :=
  let arg0 : BitVec 32 := BitVec.ofNat 32 (i 0).val
  let c4_i32 : BitVec 32 := 4#32
  let v21 : BitVec 32 := Scalar.muli arg0 c4_i32
  let v22 : BitVec 32 := Scalar.addi v21 c0_i32_8
  let v23 : Index := Scalar.indexCast v22
  let c0_9 : Index := 0#32
  ![v23.toNat, 0]
def k0_off4 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v107 : Index := Scalar.indexCast v2
  let c0_36 : Index := 0#32
  let c0_37 : Index := 0#32
  ![v107.toNat, 0, 0]
def k0_off5 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v113 : Index := Scalar.indexCast v2
  let c0_38 : Index := 0#32
  let c0_39 : Index := 0#32
  ![v113.toNat, 0, 0]
def k0_off6 (i : grid0.Coords) (c0_i32_79 : BitVec 32) (c0_i32_77 : BitVec 32) : Fin 2 → Nat :=
  let arg0 : BitVec 32 := BitVec.ofNat 32 (i 0).val
  let c4_i32_40 : BitVec 32 := 4#32
  let v117 : BitVec 32 := Scalar.muli arg0 c4_i32_40
  let c0_i32_41 : BitVec 32 := 0#32
  let v119 : BitVec 1 := Scalar.cmpi .sgt v117 c0_i32_41
  let v120 : BitVec 32 := Scalar.extui v119
  let c0_i32_42 : BitVec 32 := 0#32
  let v121 : BitVec 1 := Scalar.cmpi .slt v117 c0_i32_42
  let v122 : BitVec 32 := Scalar.extui v121
  let v123 : BitVec 32 := Scalar.subi v120 v122
  let c16_i32 : BitVec 32 := 16#32
  let c0_i32_43 : BitVec 32 := 0#32
  let v124 : BitVec 1 := Scalar.cmpi .sgt c16_i32 c0_i32_43
  let v125 : BitVec 32 := Scalar.extui v124
  let c0_i32_44 : BitVec 32 := 0#32
  let v126 : BitVec 1 := Scalar.cmpi .slt c16_i32 c0_i32_44
  let v127 : BitVec 32 := Scalar.extui v126
  let v128 : BitVec 32 := Scalar.subi v125 v127
  let v129 : BitVec 1 := Scalar.cmpi .ne v123 v128
  let v130 : BitVec 32 := Scalar.remsi v117 c16_i32
  let c0_i32_45 : BitVec 32 := 0#32
  let v131 : BitVec 1 := Scalar.cmpi .ne v130 c0_i32_45
  let v132 : BitVec 1 := Scalar.andi v129 v131
  let v118 : BitVec 32 := Scalar.divsi v117 c16_i32
  let c1_i32_46 : BitVec 32 := 1#32
  let v133 : BitVec 32 := Scalar.subi v118 c1_i32_46
  let v134 : BitVec 32 := Scalar.select v132 v133 v118
  let c16_i32_47 : BitVec 32 := 16#32
  let v135 : BitVec 32 := Scalar.muli v134 c16_i32_47
  let v136 : BitVec 32 := Scalar.subi v117 v135
  let v212 : BitVec 32 := Scalar.addi v136 c0_i32_77
  let c4_i32_78 : BitVec 32 := 4#32
  let v213 : BitVec 32 := Scalar.muli v212 c4_i32_78
  let v214 : BitVec 32 := Scalar.addi c0_i32_79 v213
  let v215 : BitVec 32 := Scalar.addi v214 v134
  let v224 : Index := Scalar.indexCast v215
  let c0_82 : Index := 0#32
  ![v224.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x2048x3072 : Shape := ⟨3, ![4, 2048, 3072]⟩
abbrev S3072x3072 : Shape := ⟨2, ![3072, 3072]⟩
abbrev S3072 : Shape := ⟨1, ![3072]⟩
abbrev S8192x3072 : Shape := ⟨2, ![8192, 3072]⟩
abbrev S1x3072 : Shape := ⟨2, ![1, 3072]⟩
abbrev S8192x1536 : Shape := ⟨2, ![8192, 1536]⟩
abbrev S768x128 : Shape := ⟨2, ![768, 128]⟩
abbrev S64x128 : Shape := ⟨2, ![64, 128]⟩
abbrev S8192x1x3072 : Shape := ⟨3, ![8192, 1, 3072]⟩
abbrev S8192x1 : Shape := ⟨2, ![8192, 1]⟩
abbrev S8192x1x1 : Shape := ⟨3, ![8192, 1, 1]⟩
abbrev S1x1x256 : Shape := ⟨3, ![1, 1, 256]⟩
abbrev S8192x1x256 : Shape := ⟨3, ![8192, 1, 256]⟩
abbrev S8192x12x128 : Shape := ⟨3, ![8192, 12, 128]⟩
abbrev S8192x12 : Shape := ⟨2, ![8192, 12]⟩
abbrev S8192x12x1 : Shape := ⟨3, ![8192, 12, 1]⟩
abbrev S8192x12x256 : Shape := ⟨3, ![8192, 12, 256]⟩
abbrev S4x16x128x12 : Shape := ⟨4, ![4, 16, 128, 12]⟩
abbrev S12x16x4x128 : Shape := ⟨4, ![12, 16, 4, 128]⟩

abbrev nBuf : Space → Nat
  | .hbm => 9
  | .vmem => 7
  | .smem => 0
  | _ => 0

abbrev bufTy : (tb : Table) → Fin (tcTables nBuf tb) → BufTy
  | .hbm, ⟨0, _⟩ => ⟨S4x2048x3072, .bf16⟩
  | .hbm, ⟨1, _⟩ => ⟨S3072x3072, .fp8e4m3⟩
  | .hbm, ⟨2, _⟩ => ⟨S3072, .f32⟩
  | .hbm, ⟨3, _⟩ => ⟨S8192x3072, .bf16⟩
  | .hbm, ⟨4, _⟩ => ⟨S1x3072, .f32⟩
  | .hbm, ⟨5, _⟩ => ⟨S8192x1536, .fp8e4m3⟩
  | .hbm, ⟨6, _⟩ => ⟨S768x128, .f32⟩
  | .hbm, ⟨7, _⟩ => ⟨S8192x3072, .fp8e4m3⟩
  | .hbm, ⟨8, _⟩ => ⟨S64x128, .f32⟩
  | .local _ .vmem, ⟨0, _⟩ => ⟨S8192x3072, .bf16⟩
  | .local _ .vmem, ⟨1, _⟩ => ⟨S3072x3072, .fp8e4m3⟩
  | .local _ .vmem, ⟨2, _⟩ => ⟨S1x3072, .f32⟩
  | .local _ .vmem, ⟨3, _⟩ => ⟨S8192x1536, .fp8e4m3⟩
  | .local _ .vmem, ⟨4, _⟩ => ⟨S768x128, .f32⟩
  | .local _ .vmem, ⟨5, _⟩ => ⟨S8192x3072, .fp8e4m3⟩
  | .local _ .vmem, ⟨6, _⟩ => ⟨S64x128, .f32⟩
  | _, _ => ⟨S4x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8192x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Spec.lean ====
module

public import proofs.«01_k».proof.Proof.Gen.KernelIdeal.Skeleton
public import Idealize.ShloMosaic.Lib.Pipeline.Frame
public import Idealize.ShloMosaic.Lib.Pipeline.FrameBody
public import Idealize.ShloMosaic.Lib.Pointwise.Index

@[expose] public section

set_option maxRecDepth 16384

/-!
# What one grid point of the kernel computes

A grid point `i` works on the 512-row tile `i` of the flattened activations. The functions here name what it leaves
in the four result windows and in the two double-buffered scratches, from the tile's quantised codes and scales
(`v7`, `v11`, as the scratch slot holds them), the packed weights `x2` and their scales `x3`. They are written for
any float instance.
-/

noncomputable section

namespace Cert.KernelIdeal.Hand

open Cert.KernelIdeal Cert.KernelIdeal.Gen
open Idealize.ShloMosaic Idealize.ShloMosaic.TcCoe

variable {F : FTy → Type} [FloatOps F]

/-- The scratch slot of codes the quantiser leaves for a tile `x`. -/
def qSlot (x : Vec F S512x3072 .bf16) : Vec F S1x512x3072 .fp8e4m3 := k0_pay7 (k0_pay5 x) k0_pay6

/-- The scratch slot of scales the quantiser leaves for a tile `x`, one scale per row repeated over the lanes. -/
def sSlot (x : Vec F S512x3072 .bf16) : Vec F S1x512x128 .f32 := k0_pay8 (k0_pay4 x)

theorem chunk_inb (up : Fin 2) (g : Fin 12) :
    ∀ a, (![0, 1536 * up.val + 256 * (g.val / 2)] : Fin 2 → Nat) a + S3072x256.size a ≤ S3072x3072.size a := by
  revert up g; decide

theorem scale_inb (up : Fin 2) (g : Fin 12) :
    ∀ a, (![0, 1536 * up.val + 128 * g.val] : Fin 2 → Nat) a + S1x128.size a ≤ S1x3072.size a := by
  revert up g; decide

theorem half_slices (g : Fin 12) : S512x256.Slices ![0, 128 * (g.val % 2)] S512x128 := by
  revert g; decide

/-- The 256 weight columns that hold hidden group `g`'s columns, of the gate half (`up = 0`) or the up half (`up = 1`). -/
def chunk (x2 : Vec F S3072x3072 .fp8e4m3) (up : Fin 2) (g : Fin 12) : Vec F S3072x256 .fp8e4m3 :=
  View.ld x2 (Rect.unit (s := S3072x3072) ![0, 1536 * up.val + 256 * (g.val / 2)] S3072x256.size (chunk_inb up g))

/-- The 128 weight scales of hidden group `g`. -/
def scaleRow (x3 : Vec F S1x3072 .f32) (up : Fin 2) (g : Fin 12) : Vec F S1x128 .f32 :=
  View.ld x3 (Rect.unit (s := S1x3072) ![0, 1536 * up.val + 128 * g.val] S1x128.size (scale_inb up g))

/-- The dequantised gate (`up = 0`) or up (`up = 1`) block of hidden group `g`. -/
def half (v7 : Vec F S1x512x3072 .fp8e4m3) (v11 : Vec F S1x512x128 .f32) (x2 : Vec F S3072x3072 .fp8e4m3) (x3 : Vec F S1x3072 .f32)
    (up : Fin 2) (g : Fin 12) : FVec F S512x128 .f32 :=
  mulf (mulf (extractStridedSlice S512x128 ![0, 128 * (g.val % 2)] (k0_pay23 (k0_pay9 v7) (chunk x2 up g)) (half_slices g)) (k0_pay10 v11))
    (broadcastTo S512x128 (shapeCast S1x128 (scaleRow x3 up g) shapeCasts_S1x128_S1x128) broadcasts_S1x128_S512x128)

/-- The argument of the hyperbolic tangent in `gelu`, before its constant factor. -/
def inner (G : FVec F S512x128 .f32) : FVec F S512x128 .f32 :=
  addf G (mulf (broadcast S512x128 (Scalar.ofBits .f32 0x3D372713#32)) (mulf (mulf G G) G))

/-- The scale column of a hidden block with gate `G` and up `U`. -/
def hCol (G U : FVec F S512x128 .f32) : FVec F S512x1 .f32 := k0_pay31 G U (inner G) k0_pay28

/-- The codes of a hidden block with gate `G` and up `U`. -/
def hCode (G U : FVec F S512x128 .f32) : FVec F S512x128 .fp8e4m3 :=
  k0_pay33 (k0_pay32 G U (inner G) k0_pay28) (Scalar.ofBits .f32 0xC3E00000#32)

/-- The 128 scales of sub-tile `k`, laid along the lanes. -/
def diagRow (C : FVec F S512x1 .f32) : Fin 4 → FVec F S1x128 .f32
  | 0 => k0_pay35 C
  | 1 => k0_pay36 C
  | 2 => k0_pay37 (k0_pay34 C)
  | 3 => k0_pay38 (k0_pay34 C)

/-- The 128 activation scales of sub-tile `k`, laid along the lanes. -/
def xRow (v11 : Vec F S1x512x128 .f32) : Fin 4 → FVec F S1x128 .f32
  | 0 => k0_pay11 v11
  | 1 => k0_pay12 v11
  | 2 => k0_pay13 (k0_pay10 v11)
  | 3 => k0_pay14 (k0_pay10 v11)

/-- The hidden codes of the tile. -/
def hcTile (v7 : Vec F S1x512x3072 .fp8e4m3) (v11 : Vec F S1x512x128 .f32) (x2 : Vec F S3072x3072 .fp8e4m3) (x3 : Vec F S1x3072 .f32) :
    Vec F S512x1536 .fp8e4m3 := fun y =>
  let g : Fin 12 := ⟨(y 1).val / 128, Nat.div_lt_of_lt_mul (y 1).isLt⟩
  hCode (half v7 v11 x2 x3 0 g) (half v7 v11 x2 x3 1 g) (ix2 (y 0) ⟨(y 1).val % 128, Nat.mod_lt _ (by decide)⟩)

/-- The row of hidden scales of group `g`, sub-tile `k`. -/
def hRow (v7 : Vec F S1x512x3072 .fp8e4m3) (v11 : Vec F S1x512x128 .f32) (x2 : Vec F S3072x3072 .fp8e4m3) (x3 : Vec F S1x3072 .f32)
    (g : Fin 12) (k : Fin 4) : FVec F S1x128 .f32 :=
  diagRow (hCol (half v7 v11 x2 x3 0 g) (half v7 v11 x2 x3 1 g)) k

/-- The hidden scales' result array, entry by entry, from the tiles' rows `R`: row `64 g + 4 c + b` holds group `g`'s scales
    of sub-tile `16 b + c`. -/
def hsAt (R : Fin 12 → Fin 4 → FVec F S1x128 .f32) : Vec F S768x128 .f32 := fun y =>
  R ⟨(y 0).val / 64, Nat.div_lt_of_lt_mul (y 0).isLt⟩ ⟨((y 0).val % 64 / 4) % 4, Nat.mod_lt _ (by decide)⟩ (ix2 0 (y 1))

/-- The grid point that writes row `r` of the hidden scales. -/
def hsPoint (r : ℕ) : ℕ := r % 4 * 4 + r % 64 / 16

/-- The activation scales' result array, entry by entry: row `r` is sub-tile `r`. -/
def xsAt (R : Fin 4 → FVec F S1x128 .f32) : Vec F S64x128 .f32 := fun y =>
  R ⟨(y 0).val % 4, Nat.mod_lt _ (by decide)⟩ (ix2 0 (y 1))

/-- Grid point `t` overwrites its own rows of the hidden scales and keeps the others. -/
def hsUpd (t : ℕ) (R : Fin 12 → Fin 4 → FVec F S1x128 .f32) (d : Vec F S768x128 .f32) : Vec F S768x128 .f32 := fun y =>
  if hsPoint (y 0).val = t then hsAt R y else d y

/-- Grid point `t` overwrites its own rows of the activation scales and keeps the others. -/
def xsUpd (t : ℕ) (R : Fin 4 → FVec F S1x128 .f32) (d : Vec F S64x128 .f32) : Vec F S64x128 .f32 := fun y =>
  if (y 0).val / 4 = t then xsAt R y else d y

end Cert.KernelIdeal.Hand
end
-- ==== Proof.Pieces.lean ====
module

public import proofs.«01_k».proof.Proof.Spec

@[expose] public section

set_option maxRecDepth 16384

/-!
# The stores of one grid point, as lists of pieces

The scale rows and the code columns that a grid point stores, read back from the buffer they were stored to.
-/

noncomputable section

namespace Cert.KernelIdeal.Hand

open Cert.KernelIdeal Cert.KernelIdeal.Gen
open Idealize.ShloMosaic Idealize.ShloMosaic.TcCoe

variable {F : FTy → Type} [FloatOps F]

/-- The row of the hidden scales that grid point `i` stores for group `g` and sub-tile `k`. -/
theorem off6_eq : ∀ (i : grid0.Coords) (g : Fin 12) (k : Fin 4),
    k0_off6 i (BitVec.ofNat 32 (64 * g.val)) (BitVec.ofNat 32 k.val)
      = ![64 * g.val + (4 * ((i 0).val % 4) + k.val) * 4 + (i 0).val / 4, 0] := by decide +kernel

theorem off6_inb (i : grid0.Coords) (g : Fin 12) (k : Fin 4) :
    ∀ a, k0_off6 i (BitVec.ofNat 32 (64 * g.val)) (BitVec.ofNat 32 k.val) a + S1x128.size a ≤ S768x128.size a := by
  rw [off6_eq]
  have h0 : (i 0).val < 16 := (i 0).isLt
  intro a
  match a with
  | 0 => show 64 * g.val + (4 * ((i 0).val % 4) + k.val) * 4 + (i 0).val / 4 + 1 ≤ 768; omega
  | 1 => show 0 + 128 ≤ 128; omega

theorem off3_inb (i : grid0.Coords) (k : Fin 4) :
    ∀ a, k0_off3 i (BitVec.ofNat 32 k.val) a + S1x128.size a ≤ S64x128.size a := by
  rw [k0_off3_eq]
  have h0 : (i 0).val < 16 := (i 0).isLt
  intro a
  match a with
  | 0 => show 4 * (i 0).val + k.val + 1 ≤ 64; omega
  | 1 => show 0 + 128 ≤ 128; omega

/-- Row `64 g + 4 c + b` taken apart: its group, its sub-tile within a grid point, its grid point. -/
theorem row_parts (g k i : ℕ) (hk : k < 4) (hi : i < 16) :
    (64 * g + (4 * (i % 4) + k) * 4 + i / 4) / 64 = g ∧ (64 * g + (4 * (i % 4) + k) * 4 + i / 4) % 64 / 4 % 4 = k
      ∧ hsPoint (64 * g + (4 * (i % 4) + k) * 4 + i / 4) = i := by
  obtain ⟨s, q, hs, hq, rfl⟩ : ∃ s q, s < 4 ∧ q < 4 ∧ i = 4 * s + q := ⟨i / 4, i % 4, by omega, by omega, by omega⟩
  have e1 : (4 * s + q) % 4 = q := by omega
  have e2 : (4 * s + q) / 4 = s := by omega
  have e3 : (64 * g + (4 * q + k) * 4 + s) % 64 = 4 * (4 * q + k) + s := by omega
  have e4 : (4 * (4 * q + k) + s) / 4 = 4 * q + k := by omega
  rw [e1, e2, hsPoint, e3, e4]
  refine ⟨by omega, by omega, by omega⟩

/-- and put together again. -/
theorem row_whole (r : ℕ) : 64 * (r / 64) + (4 * (hsPoint r % 4) + r % 64 / 4 % 4) * 4 + hsPoint r / 4 = r := by
  obtain ⟨g, q, k, s, hq, hk, hs, rfl⟩ : ∃ g q k s, q < 4 ∧ k < 4 ∧ s < 4 ∧ r = 64 * g + 16 * q + 4 * k + s :=
    ⟨r / 64, r % 64 / 16, r % 16 / 4, r % 4, by omega, by omega, by omega, by omega⟩
  have e1 : hsPoint (64 * g + 16 * q + 4 * k + s) = 4 * s + q := by unfold hsPoint; omega
  have e2 : (64 * g + 16 * q + 4 * k + s) / 64 = g := by omega
  have e3 : (64 * g + 16 * q + 4 * k + s) % 64 / 4 % 4 = k := by
    rw [show (64 * g + 16 * q + 4 * k + s) % 64 = 4 * (4 * q + k) + s by omega, show (4 * (4 * q + k) + s) / 4 = 4 * q + k by omega]
    omega
  have e4 : (4 * s + q) % 4 = q := by omega
  have e5 : (4 * s + q) / 4 = s := by omega
  rw [e1, e2, e3, e4, e5]
  omega

/-- One stored row of hidden scales. -/
def hsPiece (i : grid0.Coords) (R : Fin 12 → Fin 4 → FVec F S1x128 .f32) (g : Fin 12) (k : Fin 4) :
    View.Piece (Elt F) S768x128 .f32 :=
  ⟨Rect.unit (s := S768x128) (k0_off6 i (BitVec.ofNat 32 (64 * g.val)) (BitVec.ofNat 32 k.val)) S1x128.size (off6_inb i g k), R g k⟩

/-- The 48 stored rows of hidden scales, the last one first. -/
def hsPieces (i : grid0.Coords) (R : Fin 12 → Fin 4 → FVec F S1x128 .f32) : List (View.Piece (Elt F) S768x128 .f32) :=
  [hsPiece i R 11 3, hsPiece i R 11 2, hsPiece i R 11 1, hsPiece i R 11 0, hsPiece i R 10 3, hsPiece i R 10 2, hsPiece i R 10 1,
   hsPiece i R 10 0, hsPiece i R 9 3, hsPiece i R 9 2, hsPiece i R 9 1, hsPiece i R 9 0, hsPiece i R 8 3, hsPiece i R 8 2,
   hsPiece i R 8 1, hsPiece i R 8 0, hsPiece i R 7 3, hsPiece i R 7 2, hsPiece i R 7 1, hsPiece i R 7 0, hsPiece i R 6 3,
   hsPiece i R 6 2, hsPiece i R 6 1, hsPiece i R 6 0, hsPiece i R 5 3, hsPiece i R 5 2, hsPiece i R 5 1, hsPiece i R 5 0,
   hsPiece i R 4 3, hsPiece i R 4 2, hsPiece i R 4 1, hsPiece i R 4 0, hsPiece i R 3 3, hsPiece i R 3 2, hsPiece i R 3 1,
   hsPiece i R 3 0, hsPiece i R 2 3, hsPiece i R 2 2, hsPiece i R 2 1, hsPiece i R 2 0, hsPiece i R 1 3, hsPiece i R 1 2,
   hsPiece i R 1 1, hsPiece i R 1 0, hsPiece i R 0 3, hsPiece i R 0 2, hsPiece i R 0 1, hsPiece i R 0 0]

/-- Every row of the list is one of the stored rows, -/
theorem of_mem_hsPieces {i : grid0.Coords} {R : Fin 12 → Fin 4 → FVec F S1x128 .f32} {p : View.Piece (Elt F) S768x128 .f32}
    (h : p ∈ hsPieces i R) : ∃ g k, p = hsPiece i R g k := by
  simp only [hsPieces, List.mem_cons, List.not_mem_nil, or_false] at h
  rcases h with h | h | h | h | h | h | h | h | h | h | h | h | h | h | h | h | h | h | h | h | h | h | h | h | h | h | h | h | h
    | h | h | h | h | h | h | h | h | h | h | h | h | h | h | h | h | h | h | h <;> exact ⟨_, _, h⟩

/-- and every stored row is in the list. -/
theorem mem_hsPieces (i : grid0.Coords) (R : Fin 12 → Fin 4 → FVec F S1x128 .f32) :
    ∀ (g : Fin 12) (k : Fin 4), hsPiece i R g k ∈ hsPieces i R := by
  intro g k
  match g, k with
  | 0, 0 | 0, 1 | 0, 2 | 0, 3 | 1, 0 | 1, 1 | 1, 2 | 1, 3 | 2, 0 | 2, 1 | 2, 2 | 2, 3 | 3, 0 | 3, 1 | 3, 2 | 3, 3
  | 4, 0 | 4, 1 | 4, 2 | 4, 3 | 5, 0 | 5, 1 | 5, 2 | 5, 3 | 6, 0 | 6, 1 | 6, 2 | 6, 3 | 7, 0 | 7, 1 | 7, 2 | 7, 3
  | 8, 0 | 8, 1 | 8, 2 | 8, 3 | 9, 0 | 9, 1 | 9, 2 | 9, 3 | 10, 0 | 10, 1 | 10, 2 | 10, 3 | 11, 0 | 11, 1 | 11, 2 | 11, 3 =>
    simp only [hsPieces, List.mem_cons, true_or, or_true]

/-- The row a piece is stored to. -/
theorem hsPiece_row (i : grid0.Coords) (R : Fin 12 → Fin 4 → FVec F S1x128 .f32) (g : Fin 12) (k : Fin 4)
    (x : (hsPiece i R g k).1.shape.Idx) :
    (((hsPiece i R g k).1.emb x) 0).val = 64 * g.val + (4 * ((i 0).val % 4) + k.val) * 4 + (i 0).val / 4 := by
  have hx : (x 0).val < 1 := (x 0).isLt
  show k0_off6 i (BitVec.ofNat 32 (64 * g.val)) (BitVec.ofNat 32 k.val) 0 + 1 * (x 0).val = _
  rw [off6_eq]
  show 64 * g.val + (4 * ((i 0).val % 4) + k.val) * 4 + (i 0).val / 4 + 1 * (x 0).val = _
  omega

/-- The lane of an entry of a stored row. -/
theorem hsPiece_lane (i : grid0.Coords) (R : Fin 12 → Fin 4 → FVec F S1x128 .f32) (g : Fin 12) (k : Fin 4)
    (x : (hsPiece i R g k).1.shape.Idx) : (((hsPiece i R g k).1.emb x) 1).val = (x 1).val := by
  show k0_off6 i (BitVec.ofNat 32 (64 * g.val)) (BitVec.ofNat 32 k.val) 1 + 1 * (x 1).val = _
  rw [off6_eq]
  show 0 + 1 * (x 1).val = _
  omega

/-- A stored row is the part of the whole array `hsAt R` at its place. -/
theorem hsPiece_ok (i : grid0.Coords) (R : Fin 12 → Fin 4 → FVec F S1x128 .f32) (g : Fin 12) (k : Fin 4)
    (x : (hsPiece i R g k).1.shape.Idx) : (hsPiece i R g k).2 x = hsAt R ((hsPiece i R g k).1.emb x) := by
  have h0 := hsPiece_row i R g k x
  have h1 := hsPiece_lane i R g k x
  have hi : (i 0).val < 16 := (i 0).isLt
  have hx : (x 0).val < 1 := (x 0).isLt
  generalize (hsPiece i R g k).1.emb x = y at h0 h1
  show R g k x = R _ _ _
  obtain ⟨p1, p2, -⟩ := row_parts g.val k.val (i 0).val k.isLt hi
  have e1 : (⟨(y 0).val / 64, Nat.div_lt_of_lt_mul (y 0).isLt⟩ : Fin 12) = g := Fin.ext (by show (y 0).val / 64 = _; rw [h0, p1])
  have e2 : (⟨((y 0).val % 64 / 4) % 4, Nat.mod_lt _ (by decide)⟩ : Fin 4) = k :=
    Fin.ext (by show ((y 0).val % 64 / 4) % 4 = _; rw [h0, p2])
  rw [e1, e2]
  congr 1
  funext a
  match a with
  | ⟨0, _⟩ => exact Fin.ext (by show (x 0).val = 0; omega)
  | ⟨1, _⟩ => exact Fin.ext h1.symm

/-- The buffer of hidden scales after the 48 rows are stored. -/
theorem read_hsPieces {sig' : RefSig} {κ : Kind} {sp : Space} (v : View sig' κ sp S768x128 .f32) (f : v.ty.Contents (Elt F))
    (i : grid0.Coords) (R : Fin 12 → Fin 4 → FVec F S1x128 .f32) :
    v.read (Elt F) (v.writes (Elt F) f (hsPieces i R)) = hsUpd (i 0).val R (v.read (Elt F) f) := by
  have hi : (i 0).val < 16 := (i 0).isLt
  funext y
  have hy0 : (y 0).val < 768 := (y 0).isLt
  by_cases h : hsPoint (y 0).val = (i 0).val
  · rw [View.read_writes_apply_of_pieces v f (hsAt R)]
    · rw [hsUpd, if_pos h]
    · rintro p hp x
      obtain ⟨g, k, rfl⟩ := of_mem_hsPieces hp
      exact hsPiece_ok i R g k x
    · refine ⟨_, mem_hsPieces i R ⟨(y 0).val / 64, by omega⟩ ⟨((y 0).val % 64 / 4) % 4, by omega⟩, ?_⟩
      rw [← Rect.map_emb_univ, Finset.mem_map]
      refine ⟨ix2 (n0 := 1) (n1 := 128) 0 (y 1), Finset.mem_univ _, ?_⟩
      funext a
      match a with
      | ⟨0, _⟩ =>
        refine Fin.ext ((hsPiece_row i R _ _ _).trans ?_)
        show 64 * ((y 0).val / 64) + (4 * ((i 0).val % 4) + ((y 0).val % 64 / 4) % 4) * 4 + (i 0).val / 4 = (y 0).val
        rw [← h]
        exact row_whole _
      | ⟨1, _⟩ => exact Fin.ext (hsPiece_lane i R _ _ _)
  · rw [View.read_writes_apply_of_forall_not_mem v f y]
    · rw [hsUpd, if_neg h]
    · rintro p hp hy
      obtain ⟨g, k, rfl⟩ := of_mem_hsPieces hp
      obtain ⟨x, rfl⟩ := (hsPiece i R g k).1.exists_idx_of_mem hy
      have h0 := hsPiece_row i R g k x
      exact h ((congrArg hsPoint h0).trans (row_parts g.val k.val (i 0).val k.isLt hi).2.2)

/-- One stored row of activation scales. -/
def xsPiece (i : grid0.Coords) (R : Fin 4 → FVec F S1x128 .f32) (k : Fin 4) : View.Piece (Elt F) S64x128 .f32 :=
  ⟨Rect.unit (s := S64x128) (k0_off3 i (BitVec.ofNat 32 k.val)) S1x128.size (off3_inb i k), R k⟩

/-- The 4 stored rows of activation scales, the last one first. -/
def xsPieces (i : grid0.Coords) (R : Fin 4 → FVec F S1x128 .f32) : List (View.Piece (Elt F) S64x128 .f32) :=
  [xsPiece i R 3, xsPiece i R 2, xsPiece i R 1, xsPiece i R 0]

theorem xsPiece_row (i : grid0.Coords) (R : Fin 4 → FVec F S1x128 .f32) (k : Fin 4) (x : (xsPiece i R k).1.shape.Idx) :
    (((xsPiece i R k).1.emb x) 0).val = 4 * (i 0).val + k.val := by
  have hx : (x 0).val < 1 := (x 0).isLt
  show k0_off3 i (BitVec.ofNat 32 k.val) 0 + 1 * (x 0).val = _
  rw [k0_off3_eq]
  show 4 * (i 0).val + k.val + 1 * (x 0).val = _
  omega

theorem xsPiece_lane (i : grid0.Coords) (R : Fin 4 → FVec F S1x128 .f32) (k : Fin 4) (x : (xsPiece i R k).1.shape.Idx) :
    (((xsPiece i R k).1.emb x) 1).val = (x 1).val := by
  show k0_off3 i (BitVec.ofNat 32 k.val) 1 + 1 * (x 1).val = _
  rw [k0_off3_eq]
  show 0 + 1 * (x 1).val = _
  omega

theorem of_mem_xsPieces {i : grid0.Coords} {R : Fin 4 → FVec F S1x128 .f32} {p : View.Piece (Elt F) S64x128 .f32}
    (h : p ∈ xsPieces i R) : ∃ k, p = xsPiece i R k := by
  simp only [xsPieces, List.mem_cons, List.not_mem_nil, or_false] at h
  rcases h with h | h | h | h <;> exact ⟨_, h⟩

theorem mem_xsPieces (i : grid0.Coords) (R : Fin 4 → FVec F S1x128 .f32) : ∀ k : Fin 4, xsPiece i R k ∈ xsPieces i R := by
  intro k
  match k with
  | 0 | 1 | 2 | 3 => simp only [xsPieces, List.mem_cons, true_or, or_true]

/-- The buffer of activation scales after the 4 rows are stored. -/
theorem read_xsPieces {sig' : RefSig} {κ : Kind} {sp : Space} (v : View sig' κ sp S64x128 .f32) (f : v.ty.Contents (Elt F))
    (i : grid0.Coords) (R : Fin 4 → FVec F S1x128 .f32) :
    v.read (Elt F) (v.writes (Elt F) f (xsPieces i R)) = xsUpd (i 0).val R (v.read (Elt F) f) := by
  have hi : (i 0).val < 16 := (i 0).isLt
  funext y
  have hy0 : (y 0).val < 64 := (y 0).isLt
  by_cases h : (y 0).val / 4 = (i 0).val
  · rw [View.read_writes_apply_of_pieces v f (xsAt R)]
    · rw [xsUpd, if_pos h]
    · rintro p hp x
      obtain ⟨k, rfl⟩ := of_mem_xsPieces hp
      have h0 := xsPiece_row i R k x
      have h1 := xsPiece_lane i R k x
      have hx : (x 0).val < 1 := (x 0).isLt
      generalize (xsPiece i R k).1.emb x = y at h0 h1
      show R k x = R _ _
      have e2 : (⟨(y 0).val % 4, Nat.mod_lt _ (by decide)⟩ : Fin 4) = k := Fin.ext (by show (y 0).val % 4 = _; omega)
      rw [e2]
      congr 1
      funext a
      match a with
      | ⟨0, _⟩ => exact Fin.ext (by show (x 0).val = 0; omega)
      | ⟨1, _⟩ => exact Fin.ext h1.symm
    · refine ⟨_, mem_xsPieces i R ⟨(y 0).val % 4, by omega⟩, ?_⟩
      rw [← Rect.map_emb_univ, Finset.mem_map]
      refine ⟨ix2 (n0 := 1) (n1 := 128) 0 (y 1), Finset.mem_univ _, ?_⟩
      funext a
      match a with
      | ⟨0, _⟩ =>
        refine Fin.ext ((xsPiece_row i R _ _).trans ?_)
        show 4 * (i 0).val + (y 0).val % 4 = (y 0).val
        omega
      | ⟨1, _⟩ => exact Fin.ext (xsPiece_lane i R _ _)
  · rw [View.read_writes_apply_of_forall_not_mem v f y]
    · rw [xsUpd, if_neg h]
    · rintro p hp hy
      obtain ⟨k, rfl⟩ := of_mem_xsPieces hp
      obtain ⟨x, rfl⟩ := (xsPiece i R k).1.exists_idx_of_mem hy
      have h0 := xsPiece_row i R k x
      refine h ((congrArg (· / 4) h0).trans ?_)
      show (4 * (i 0).val + k.val) / 4 = _
      omega

theorem code_inb (g : Fin 12) : ∀ a, (![0, 128 * g.val] : Fin 2 → Nat) a + S512x128.size a ≤ S512x1536.size a := by
  revert g; decide

/-- One stored block of hidden codes. -/
def hcPiece (R : Fin 12 → FVec F S512x128 .fp8e4m3) (g : Fin 12) : View.Piece (Elt F) S512x1536 .fp8e4m3 :=
  ⟨Rect.unit (s := S512x1536) ![0, 128 * g.val] S512x128.size (code_inb g), R g⟩

/-- The 12 stored blocks of hidden codes, the last one first. -/
def hcPieces (R : Fin 12 → FVec F S512x128 .fp8e4m3) : List (View.Piece (Elt F) S512x1536 .fp8e4m3) :=
  [hcPiece R 11, hcPiece R 10, hcPiece R 9, hcPiece R 8, hcPiece R 7, hcPiece R 6, hcPiece R 5, hcPiece R 4, hcPiece R 3,
   hcPiece R 2, hcPiece R 1, hcPiece R 0]

theorem of_mem_hcPieces {R : Fin 12 → FVec F S512x128 .fp8e4m3} {p : View.Piece (Elt F) S512x1536 .fp8e4m3}
    (h : p ∈ hcPieces R) : ∃ g, p = hcPiece R g := by
  simp only [hcPieces, List.mem_cons, List.not_mem_nil, or_false] at h
  rcases h with h | h | h | h | h | h | h | h | h | h | h | h <;> exact ⟨_, h⟩

theorem mem_hcPieces (R : Fin 12 → FVec F S512x128 .fp8e4m3) : ∀ g : Fin 12, hcPiece R g ∈ hcPieces R := by
  intro g
  match g with
  | 0 | 1 | 2 | 3 | 4 | 5 | 6 | 7 | 8 | 9 | 10 | 11 => simp only [hcPieces, List.mem_cons, true_or, or_true]

/-- The buffer of hidden codes after the 12 blocks are stored. -/
theorem read_hcPieces {sig' : RefSig} {κ : Kind} {sp : Space} (v : View sig' κ sp S512x1536 .fp8e4m3) (f : v.ty.Contents (Elt F))
    (R : Fin 12 → FVec F S512x128 .fp8e4m3) :
    v.read (Elt F) (v.writes (Elt F) f (hcPieces R))
      = fun y => R ⟨(y 1).val / 128, Nat.div_lt_of_lt_mul (y 1).isLt⟩ (ix2 (y 0) ⟨(y 1).val % 128, Nat.mod_lt _ (by decide)⟩) := by
  funext y
  have hy1 : (y 1).val < 1536 := (y 1).isLt
  rw [View.read_writes_apply_of_pieces v f
    (fun y => R ⟨(y 1).val / 128, Nat.div_lt_of_lt_mul (y 1).isLt⟩ (ix2 (y 0) ⟨(y 1).val % 128, Nat.mod_lt _ (by decide)⟩))]
  · rintro p hp x
    obtain ⟨g, rfl⟩ := of_mem_hcPieces hp
    have h0 : (((hcPiece R g).1.emb x) 0).val = (x 0).val := by show 0 + 1 * (x 0).val = _; omega
    have h1 : (((hcPiece R g).1.emb x) 1).val = 128 * g.val + (x 1).val := by show 128 * g.val + 1 * (x 1).val = _; omega
    have hx : (x 1).val < 128 := (x 1).isLt
    generalize (hcPiece R g).1.emb x = y at h0 h1
    show R g x = R _ _
    have e2 : (⟨(y 1).val / 128, Nat.div_lt_of_lt_mul (y 1).isLt⟩ : Fin 12) = g := Fin.ext (by show (y 1).val / 128 = _; omega)
    rw [e2]
    congr 1
    funext a
    match a with
    | ⟨0, _⟩ => exact Fin.ext h0.symm
    | ⟨1, _⟩ => exact Fin.ext (by show (x 1).val = (y 1).val % 128; omega)
  · refine ⟨_, mem_hcPieces R ⟨(y 1).val / 128, by omega⟩, ?_⟩
    rw [← Rect.map_emb_univ, Finset.mem_map]
    refine ⟨ix2 (n0 := 512) (n1 := 128) (y 0) ⟨(y 1).val % 128, Nat.mod_lt _ (by decide)⟩, Finset.mem_univ _, ?_⟩
    funext a
    match a with
    | ⟨0, _⟩ => exact Fin.ext (by show 0 + 1 * (y 0).val = (y 0).val; omega)
    | ⟨1, _⟩ => exact Fin.ext (by show 128 * ((y 1).val / 128) + 1 * ((y 1).val % 128) = (y 1).val; omega)

end Cert.KernelIdeal.Hand
end
-- ==== Proof.Body.lean ====
module

public import proofs.«01_k».proof.Proof.Pieces
public import proofs.«01_k».proof.Proof.Gen.KernelIdeal.Frame
public import Idealize.ShloMosaic.Lib.Tactic
public import Idealize.ShloMosaic.Lib.VecWindow

@[expose] public section

set_option maxRecDepth 16384

/-!
# One run of the kernel body

What the body leaves, from the contents of its windows and scratches: at the first grid point it quantises its own tile
first; at every grid point it reads the quantised tile from one scratch slot and quantises the next tile into the other.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two slots of quantised codes. -/
abbrev scQ : Memref sig .tc .vmem S2x512x3072 .fp8e4m3 := Memref.whole cc0_scratch0
/-- The two slots of scales. -/
abbrev scS : Memref sig .tc .vmem S2x512x128 .f32 := Memref.whole cc0_scratch1

/-- The body's test for the first grid point. -/
theorem first_iff : ∀ i : grid0.Coords,
    (Scalar.cmpi .ne (Scalar.extui (Scalar.cmpi .eq (BitVec.ofNat 32 (i 0).val) 0#32)) 0#32 = 1#1) ↔ (i 0).val = 0 := by
  decide +kernel

/-- The slot of codes that grid point `i` works from. -/
abbrev ldQ (q : Vec F S2x512x3072 .fp8e4m3) (i : grid0.Coords) : Vec F S1x512x3072 .fp8e4m3 :=
  View.ld q (Rect.unit (s := S2x512x3072) (k0_off1 i) S1x512x3072.size (k0_off1_inb i))
/-- The slot of scales that grid point `i` works from. -/
abbrev ldS (s : Vec F S2x512x128 .f32) (i : grid0.Coords) : Vec F S1x512x128 .f32 :=
  View.ld s (Rect.unit (s := S2x512x128) (k0_off2 i) S1x512x128.size (k0_off2_inb i))
/-- The slot of codes that grid point `i` fills for its successor. -/
abbrev ldQ' (q : Vec F S2x512x3072 .fp8e4m3) (i : grid0.Coords) : Vec F S1x512x3072 .fp8e4m3 :=
  View.ld q (Rect.unit (s := S2x512x3072) (k0_off4 i) S1x512x3072.size (k0_off4_inb i))
/-- The slot of scales that grid point `i` fills for its successor. -/
abbrev ldS' (s : Vec F S2x512x128 .f32) (i : grid0.Coords) : Vec F S1x512x128 .f32 :=
  View.ld s (Rect.unit (s := S2x512x128) (k0_off5 i) S1x512x128.size (k0_off5_inb i))

/-- A buffer of activation codes after one store of the whole of it. -/
theorem read_whole_piece {sig' : RefSig} {κ : Kind} {sp : Space} (v : View sig' κ sp S512x3072 .fp8e4m3) (f : v.ty.Contents (Elt F))
    (w : Vec F S512x3072 .fp8e4m3) :
    v.read (Elt F) (v.writes (Elt F) f [⟨Rect.unit (s := S512x3072) ![0, 0] S512x3072.size inb_S512x3072_S512x3072_0_0, w⟩]) = w :=
  View.read_writes_full v f inb_S512x3072_S512x3072_0_0 w []

/-- The slot of codes just stored. -/
theorem ldQ'_write (f : scQ.view.ty.Contents (Elt F)) (i : grid0.Coords) (w : Vec F S1x512x3072 .fp8e4m3)
    (L : List (View.Piece (Elt F) S2x512x3072 .fp8e4m3)) :
    ldQ' (scQ.view.read (Elt F) (scQ.view.writes (Elt F) f
      (⟨Rect.unit (s := S2x512x3072) (k0_off4 i) S1x512x3072.size (k0_off4_inb i), w⟩ :: L))) i = w :=
  funext fun x => View.read_writes_cons_emb scQ.view f
    (Rect.unit (s := S2x512x3072) (k0_off4 i) S1x512x3072.size (k0_off4_inb i)) w L x

/-- The slot of scales just stored. -/
theorem ldS'_write (f : scS.view.ty.Contents (Elt F)) (i : grid0.Coords) (w : Vec F S1x512x128 .f32)
    (L : List (View.Piece (Elt F) S2x512x128 .f32)) :
    ldS' (scS.view.read (Elt F) (scS.view.writes (Elt F) f
      (⟨Rect.unit (s := S2x512x128) (k0_off5 i) S1x512x128.size (k0_off5_inb i), w⟩ :: L))) i = w :=
  funext fun x => View.read_writes_cons_emb scS.view f
    (Rect.unit (s := S2x512x128) (k0_off5 i) S1x512x128.size (k0_off5_inb i)) w L x

/-- The second copy of the quantiser in the body computes the same codes as the first, -/
theorem pay21_eq (x : Vec F S512x3072 .bf16) :
    k0_pay21 (k0_pay15 x) (k0_pay16 x) k0_pay17 k0_pay18 k0_pay19 2139095040#32 = qSlot x := rfl

/-- and the same scales. -/
theorem pay22_eq (x : Vec F S512x3072 .bf16) :
    k0_pay22 (k0_pay16 x) k0_pay17 k0_pay18 k0_pay19 2139095040#32 = sSlot x := rfl

set_option maxHeartbeats 8000000 in
/-- The body at a grid point other than the first. -/
theorem run_later (c : Dev nD) (i : grid0.Coords) (hi : ¬ (i 0).val = 0)
    (arg1 : Memref sig .tc .vmem S512x3072 .bf16) (harg1 : arg1.IsWhole) (arg2 : Memref sig .tc .vmem S512x3072 .bf16) (harg2 : arg2.IsWhole)
    (arg3 : Memref sig .tc .vmem S3072x3072 .fp8e4m3) (harg3 : arg3.IsWhole) (arg4 : Memref sig .tc .vmem S1x3072 .f32) (harg4 : arg4.IsWhole)
    (arg5 : Memref sig .tc .vmem S512x1536 .fp8e4m3) (harg5 : arg5.IsWhole) (arg6 : Memref sig .tc .vmem S768x128 .f32) (harg6 : arg6.IsWhole)
    (arg7 : Memref sig .tc .vmem S512x3072 .fp8e4m3) (harg7 : arg7.IsWhole) (arg8 : Memref sig .tc .vmem S64x128 .f32) (harg8 : arg8.IsWhole)
    (x0 : Vec F S512x3072 .bf16) (x1 : Vec F S512x3072 .bf16) (x2 : Vec F S3072x3072 .fp8e4m3) (x3 : Vec F S1x3072 .f32)
    (q : Vec F S2x512x3072 .fp8e4m3) (s : Vec F S2x512x128 .f32) (d6 : Vec F S768x128 .f32) (d8 : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare d6 ∗ (∃ d, owns (c : Thread nD τ) arg7 fullShare d) ∗ owns (c : Thread nD τ) arg8 fullShare d8
        ∗ owns (c : Thread nD τ) scQ fullShare q ∗ owns (c : Thread nD τ) scS fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (hcTile (ldQ q i) (ldS s i) x2 x3)
            ∗ owns (c : Thread nD τ) arg6 fullShare (hsUpd (i 0).val (hRow (ldQ q i) (ldS s i) x2 x3) d6)
            ∗ owns (c : Thread nD τ) arg7 fullShare (k0_pay9 (ldQ q i))
            ∗ owns (c : Thread nD τ) arg8 fullShare (xsUpd (i 0).val (xRow (ldS s i)) d8)
            ∗ (∃ q', ⌜ldQ' q' i = qSlot x1⌝ ∗ owns (c : Thread nD τ) scQ fullShare q')
            ∗ (∃ s', ⌜ldS' s' i = sSlot x1⌝ ∗ owns (c : Thread nD τ) scS fullShare s')) -∗ K PUnit.unit))
      ⊢ wp frame (wpE (defs₀ (F := F)) Variants.none c none) Set.univ (cc0_geglu_fp8 i arg1 harg1 arg2 harg2 arg3 harg3 arg4 harg4 arg5 harg5 arg6 harg6 arg7 harg7 arg8 harg8 scQ (Memref.isWhole_whole _) scS (Memref.isWhole_whole _)) K := by
  have hc : ¬ (Scalar.cmpi .ne (Scalar.extui (Scalar.cmpi .eq (BitVec.ofNat 32 (i 0).val) 0#32)) 0#32 = 1#1) :=
    fun h => hi ((first_iff i).mp h)
  simp only [cc0_geglu_fp8_eq_skeleton]; unfold cc0_geglu_fp8_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%f8, %hf8, H8⟩, ⟨%f9, %hf9, H9⟩, ⟨%f10, %hf10, H10⟩, HK⟩
  subst hf1 hf2 hf3 hf4 hf6 hf8 hf9 hf10
  sl_exec (disch := sl_exact hc)
  sl_step
  iapply HK
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro
    exact read_hcPieces arg5.view f5 (fun g => hCode (half (ldQ (View.read (Elt F) scQ.view f9) i) (ldS (View.read (Elt F) scS.view f10) i) (View.read (Elt F) arg3.view f3) (View.read (Elt F) arg4.view f4) 0 g) (half (ldQ (View.read (Elt F) scQ.view f9) i) (ldS (View.read (Elt F) scS.view f10) i) (View.read (Elt F) arg3.view f3) (View.read (Elt F) arg4.view f4) 1 g))
  isplitl [H6]
  · iexists _; isplitr
    swap; · iexact H6
    ipureintro
    exact read_hsPieces arg6.view f6 i
      (hRow (ldQ (View.read (Elt F) scQ.view f9) i) (ldS (View.read (Elt F) scS.view f10) i) (View.read (Elt F) arg3.view f3) (View.read (Elt F) arg4.view f4))
  isplitl [H7]
  · iexists _; isplitr
    swap; · iexact H7
    ipureintro
    exact read_whole_piece arg7.view f7 _
  isplitl [H8]
  · iexists _; isplitr
    swap; · iexact H8
    ipureintro
    exact read_xsPieces arg8.view f8 i (xRow (ldS (View.read (Elt F) scS.view f10) i))
  isplitl [H9]
  · iexists _; isplitr
    swap
    · iexists _; isplitr
      swap; · iexact H9
      ipureintro; rfl
    ipureintro
    delta run_later.sl.r_3 run_later.sl.r_4
    rw [ldQ'_write, pay21_eq]
    exact congrArg qSlot (View.readAt_full arg2.view f2 inb_S512x3072_S512x3072_0_0)
  · iexists _; isplitr
    swap
    · iexists _; isplitr
      swap; · iexact H10
      ipureintro; rfl
    ipureintro
    delta run_later.sl.r_4
    rw [ldS'_write, pay22_eq]
    exact congrArg sSlot (View.readAt_full arg2.view f2 inb_S512x3072_S512x3072_0_0)

end Cert.KernelIdeal.Hand
end
-- ==== Proof.First.lean ====
module

public import proofs.«01_k».proof.Proof.Body
public import proofs.«01_k».proof.Proof.Gen.KernelIdeal.Frame
public import Idealize.ShloMosaic.Lib.Tactic
public import Idealize.ShloMosaic.Lib.VecWindow

@[expose] public section

set_option maxRecDepth 16384

/-!
# One run of the kernel body at the first grid point

The first grid point quantises its own tile into the slot it then works from, besides the next tile into the other slot.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load of the box that the only store has just filled, the two boxes' offsets being equal, reads what was stored. -/
theorem readAt_same_box {sig' : RefSig} {κ : Kind} {sp : Space} {sh : Shape} {e : EltTy} {Val : EltTy → Type}
    (v : View sig' κ sp sh e) (f : v.ty.Contents Val) {off off' size : Fin sh.rank → Nat}
    (inb : ∀ a, off a + size a ≤ sh.size a) (inb' : ∀ a, off' a + size a ≤ sh.size a) (h : off = off')
    (w : (Rect.unit off' size inb').shape.Idx → Val e) :
    v.readAt Val (Rect.unit off size inb).toLoadRect (v.writes Val f [⟨Rect.unit off' size inb', w⟩]) = w := by
  subst h
  exact funext fun x => View.read_writes_cons_emb v f _ w [] x

/-- The slot the first grid point works from is the first. -/
theorem off1_first (i : grid0.Coords) (hi : (i 0).val = 0) : k0_off1 i = ![0, 0, 0] := by
  rw [k0_off1_eq, hi]

/-- The same for the scales. -/
theorem off2_first (i : grid0.Coords) (hi : (i 0).val = 0) : k0_off2 i = ![0, 0, 0] := by
  rw [k0_off2_eq, hi]

/-- The codes the first grid point works from are those it has just stored. -/
theorem ldQ_first (f : scQ.view.ty.Contents (Elt F)) (i : grid0.Coords) (hi : (i 0).val = 0)
    (inb : ∀ a, (![0, 0, 0] : Fin 3 → Nat) a + S1x512x3072.size a ≤ S2x512x3072.size a) (w : Vec F S1x512x3072 .fp8e4m3) :
    scQ.view.readAt (Elt F) (Rect.unit (s := S2x512x3072) (k0_off1 i) S1x512x3072.size (k0_off1_inb i)).toLoadRect
      (scQ.view.writes (Elt F) f [⟨Rect.unit (s := S2x512x3072) ![0, 0, 0] S1x512x3072.size inb, w⟩]) = w :=
  readAt_same_box (Val := Elt F) (sh := S2x512x3072) scQ.view f (off := k0_off1 i) (off' := ![0, 0, 0]) (size := S1x512x3072.size)
    (k0_off1_inb i) inb (off1_first i hi) w

/-- The scales the first grid point works from are those it has just stored. -/
theorem ldS_first (f : scS.view.ty.Contents (Elt F)) (i : grid0.Coords) (hi : (i 0).val = 0)
    (inb : ∀ a, (![0, 0, 0] : Fin 3 → Nat) a + S1x512x128.size a ≤ S2x512x128.size a) (w : Vec F S1x512x128 .f32) :
    scS.view.readAt (Elt F) (Rect.unit (s := S2x512x128) (k0_off2 i) S1x512x128.size (k0_off2_inb i)).toLoadRect
      (scS.view.writes (Elt F) f [⟨Rect.unit (s := S2x512x128) ![0, 0, 0] S1x512x128.size inb, w⟩]) = w :=
  readAt_same_box (Val := Elt F) (sh := S2x512x128) scS.view f (off := k0_off2 i) (off' := ![0, 0, 0]) (size := S1x512x128.size)
    (k0_off2_inb i) inb (off2_first i hi) w

set_option maxHeartbeats 8000000 in
/-- The body at the first grid point: it works from its own tile, which it has quantised itself. -/
theorem run_first (c : Dev nD) (i : grid0.Coords) (hi : (i 0).val = 0)
    (arg1 : Memref sig .tc .vmem S512x3072 .bf16) (harg1 : arg1.IsWhole) (arg2 : Memref sig .tc .vmem S512x3072 .bf16) (harg2 : arg2.IsWhole)
    (arg3 : Memref sig .tc .vmem S3072x3072 .fp8e4m3) (harg3 : arg3.IsWhole) (arg4 : Memref sig .tc .vmem S1x3072 .f32) (harg4 : arg4.IsWhole)
    (arg5 : Memref sig .tc .vmem S512x1536 .fp8e4m3) (harg5 : arg5.IsWhole) (arg6 : Memref sig .tc .vmem S768x128 .f32) (harg6 : arg6.IsWhole)
    (arg7 : Memref sig .tc .vmem S512x3072 .fp8e4m3) (harg7 : arg7.IsWhole) (arg8 : Memref sig .tc .vmem S64x128 .f32) (harg8 : arg8.IsWhole)
    (x0 : Vec F S512x3072 .bf16) (x1 : Vec F S512x3072 .bf16) (x2 : Vec F S3072x3072 .fp8e4m3) (x3 : Vec F S1x3072 .f32)
    (q : Vec F S2x512x3072 .fp8e4m3) (s : Vec F S2x512x128 .f32) (d6 : Vec F S768x128 .f32) (d8 : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare d6 ∗ (∃ d, owns (c : Thread nD τ) arg7 fullShare d) ∗ owns (c : Thread nD τ) arg8 fullShare d8
        ∗ owns (c : Thread nD τ) scQ fullShare q ∗ owns (c : Thread nD τ) scS fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (hcTile (qSlot x0) (sSlot x0) x2 x3)
            ∗ owns (c : Thread nD τ) arg6 fullShare (hsUpd (i 0).val (hRow (qSlot x0) (sSlot x0) x2 x3) d6)
            ∗ owns (c : Thread nD τ) arg7 fullShare (k0_pay9 (qSlot x0))
            ∗ owns (c : Thread nD τ) arg8 fullShare (xsUpd (i 0).val (xRow (sSlot x0)) d8)
            ∗ (∃ q', ⌜ldQ' q' i = qSlot x1⌝ ∗ owns (c : Thread nD τ) scQ fullShare q')
            ∗ (∃ s', ⌜ldS' s' i = sSlot x1⌝ ∗ owns (c : Thread nD τ) scS fullShare s')) -∗ K PUnit.unit))
      ⊢ wp frame (wpE (defs₀ (F := F)) Variants.none c none) Set.univ (cc0_geglu_fp8 i arg1 harg1 arg2 harg2 arg3 harg3 arg4 harg4 arg5 harg5 arg6 harg6 arg7 harg7 arg8 harg8 scQ (Memref.isWhole_whole _) scS (Memref.isWhole_whole _)) K := by
  have hc : (Scalar.cmpi .ne (Scalar.extui (Scalar.cmpi .eq (BitVec.ofNat 32 (i 0).val) 0#32)) 0#32 = 1#1) :=
    (first_iff i).mpr hi
  simp only [cc0_geglu_fp8_eq_skeleton]; unfold cc0_geglu_fp8_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%f8, %hf8, H8⟩, ⟨%f9, %hf9, H9⟩, ⟨%f10, %hf10, H10⟩, HK⟩
  subst hf1 hf2 hf3 hf4 hf6 hf8 hf9 hf10
  sl_exec (disch := sl_exact hc)
  sl_step
  have e7 : View.readAt (Elt F) scQ.view (Rect.unit (s := S2x512x3072) (k0_off1 i) S1x512x3072.size (k0_off1_inb i)).toLoadRect (scQ.view.writes (Elt F) f9 (run_first.sl.H9_1 c arg1 f1)) = qSlot (View.read (Elt F) arg1.view f1) := by
    delta run_first.sl.H9_1
    rw [ldQ_first f9 i hi]
    exact congrArg qSlot (View.readAt_full arg1.view f1 inb_S512x3072_S512x3072_0_0)
  have e11 : View.readAt (Elt F) scS.view (Rect.unit (s := S2x512x128) (k0_off2 i) S1x512x128.size (k0_off2_inb i)).toLoadRect (scS.view.writes (Elt F) f10 (run_first.sl.H10_1 c arg1 f1)) = sSlot (View.read (Elt F) arg1.view f1) := by
    delta run_first.sl.H10_1
    rw [ldS_first f10 i hi]
    exact congrArg sSlot (View.readAt_full arg1.view f1 inb_S512x3072_S512x3072_0_0)
  rw [← e7, ← e11]
  iapply HK
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro
    exact read_hcPieces arg5.view f5 (fun g => hCode (half (View.readAt (Elt F) scQ.view (Rect.unit (s := S2x512x3072) (k0_off1 i) S1x512x3072.size (k0_off1_inb i)).toLoadRect (scQ.view.writes (Elt F) f9 (run_first.sl.H9_1 c arg1 f1))) (View.readAt (Elt F) scS.view (Rect.unit (s := S2x512x128) (k0_off2 i) S1x512x128.size (k0_off2_inb i)).toLoadRect (scS.view.writes (Elt F) f10 (run_first.sl.H10_1 c arg1 f1))) (View.read (Elt F) arg3.view f3) (View.read (Elt F) arg4.view f4) 0 g) (half (View.readAt (Elt F) scQ.view (Rect.unit (s := S2x512x3072) (k0_off1 i) S1x512x3072.size (k0_off1_inb i)).toLoadRect (scQ.view.writes (Elt F) f9 (run_first.sl.H9_1 c arg1 f1))) (View.readAt (Elt F) scS.view (Rect.unit (s := S2x512x128) (k0_off2 i) S1x512x128.size (k0_off2_inb i)).toLoadRect (scS.view.writes (Elt F) f10 (run_first.sl.H10_1 c arg1 f1))) (View.read (Elt F) arg3.view f3) (View.read (Elt F) arg4.view f4) 1 g))
  isplitl [H6]
  · iexists _; isplitr
    swap; · iexact H6
    ipureintro
    exact read_hsPieces arg6.view f6 i
      (hRow (View.readAt (Elt F) scQ.view (Rect.unit (s := S2x512x3072) (k0_off1 i) S1x512x3072.size (k0_off1_inb i)).toLoadRect (scQ.view.writes (Elt F) f9 (run_first.sl.H9_1 c arg1 f1))) (View.readAt (Elt F) scS.view (Rect.unit (s := S2x512x128) (k0_off2 i) S1x512x128.size (k0_off2_inb i)).toLoadRect (scS.view.writes (Elt F) f10 (run_first.sl.H10_1 c arg1 f1))) (View.read (Elt F) arg3.view f3) (View.read (Elt F) arg4.view f4))
  isplitl [H7]
  · iexists _; isplitr
    swap; · iexact H7
    ipureintro
    exact read_whole_piece arg7.view f7 _
  isplitl [H8]
  · iexists _; isplitr
    swap; · iexact H8
    ipureintro
    exact read_xsPieces arg8.view f8 i (xRow (View.readAt (Elt F) scS.view (Rect.unit (s := S2x512x128) (k0_off2 i) S1x512x128.size (k0_off2_inb i)).toLoadRect (scS.view.writes (Elt F) f10 (run_first.sl.H10_1 c arg1 f1))))
  isplitl [H9]
  · iexists _; isplitr
    swap
    · iexists _; isplitr
      swap; · iexact H9
      ipureintro; rfl
    ipureintro
    delta run_first.sl.r_5 run_first.sl.r_6
    rw [ldQ'_write, pay21_eq]
    exact congrArg qSlot (View.readAt_full arg2.view f2 inb_S512x3072_S512x3072_0_0)
  · iexists _; isplitr
    swap
    · iexists _; isplitr
      swap; · iexact H10
      ipureintro; rfl
    ipureintro
    delta run_first.sl.r_6
    rw [ldS'_write, pay22_eq]
    exact congrArg sSlot (View.readAt_full arg2.view f2 inb_S512x3072_S512x3072_0_0)

end Cert.KernelIdeal.Hand
end
-- ==== Proof.Point.lean ====
module

public import proofs.«01_k».proof.Proof.First
public import proofs.«01_k».proof.Proof.Gen.KernelIdeal.Frame
public import proofs.«01_k».proof.Proof.Gen.KernelIdeal.Points
public import Idealize.ShloMosaic.Lib.Pipeline.DatRel
public import Idealize.ShloMosaic.Lib.Pipeline.ArrRel
public import Idealize.ShloMosaic.Lib.Tactic

@[expose] public section

set_option maxRecDepth 16384

/-!
# The launch of the kernel

Between two grid points the scratches carry the quantised tile that the next point works from. The two arrays of scales stay in
their staging buffers over the whole grid, and every point fills its own rows of them.
-/

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat RDat BodyObligationRel)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A grid point's coordinate is its number. -/
theorem coords_val : ∀ t : Fin cfg0.N, ((grid0.coords t) 0).val = t.val := by
  decide +kernel

/-- Two loads of one box at equal offsets are the same. -/
theorem ld_off {s : Shape} {e : EltTy} {Val : EltTy → Type} (q : s.Idx → Val e) {off off' size : Fin s.rank → Nat}
    (inb : ∀ a, off a + size a ≤ s.size a) (inb' : ∀ a, off' a + size a ≤ s.size a) (h : off = off') :
    (View.ld q (Rect.unit off size inb) : (Rect.unit off size inb).shape.Idx → Val e) = View.ld q (Rect.unit off' size inb') := by
  subst h; rfl

/-- The slot of codes a grid point works from is the one its predecessor filled. -/
theorem off1_succ : ∀ t u : Fin cfg0.N, t.val = u.val + 1 → k0_off1 (grid0.coords t) = k0_off4 (grid0.coords u) := by
  intro t u h
  rw [k0_off1_eq, k0_off4_eq, coords_val, coords_val, h]

/-- The same for the scales. -/
theorem off2_succ : ∀ t u : Fin cfg0.N, t.val = u.val + 1 → k0_off2 (grid0.coords t) = k0_off5 (grid0.coords u) := by
  intro t u h
  rw [k0_off2_eq, k0_off5_eq, coords_val, coords_val, h]

/-- The codes a grid point reads are those its predecessor left. -/
theorem ldQ_succ (q : Vec F S2x512x3072 .fp8e4m3) (t u : Fin cfg0.N) (h : t.val = u.val + 1) :
    ldQ q (grid0.coords t) = ldQ' q (grid0.coords u) :=
  ld_off (Val := Elt F) (s := S2x512x3072) q (k0_off1_inb _) (k0_off4_inb _) (off1_succ t u h)

/-- The scales a grid point reads are those its predecessor left. -/
theorem ldS_succ (s : Vec F S2x512x128 .f32) (t u : Fin cfg0.N) (h : t.val = u.val + 1) :
    ldS s (grid0.coords t) = ldS' s (grid0.coords u) :=
  ld_off (Val := Elt F) (s := S2x512x128) s (k0_off2_inb _) (k0_off5_inb _) (off2_succ t u h)

set_option maxHeartbeats 1000000 in
/-- The body at any grid point, `xt` being the tile it works from: at the first point its own, later the one whose codes and scales
    the slots hold. -/
theorem run_point (c : Dev nD) (i : grid0.Coords)
    (arg1 : Memref sig .tc .vmem S512x3072 .bf16) (harg1 : arg1.IsWhole) (arg2 : Memref sig .tc .vmem S512x3072 .bf16) (harg2 : arg2.IsWhole)
    (arg3 : Memref sig .tc .vmem S3072x3072 .fp8e4m3) (harg3 : arg3.IsWhole) (arg4 : Memref sig .tc .vmem S1x3072 .f32) (harg4 : arg4.IsWhole)
    (arg5 : Memref sig .tc .vmem S512x1536 .fp8e4m3) (harg5 : arg5.IsWhole) (arg6 : Memref sig .tc .vmem S768x128 .f32) (harg6 : arg6.IsWhole)
    (arg7 : Memref sig .tc .vmem S512x3072 .fp8e4m3) (harg7 : arg7.IsWhole) (arg8 : Memref sig .tc .vmem S64x128 .f32) (harg8 : arg8.IsWhole)
    (x0 : Vec F S512x3072 .bf16) (x1 : Vec F S512x3072 .bf16) (x2 : Vec F S3072x3072 .fp8e4m3) (x3 : Vec F S1x3072 .f32)
    (q : Vec F S2x512x3072 .fp8e4m3) (s : Vec F S2x512x128 .f32) (d6 : Vec F S768x128 .f32) (d8 : Vec F S64x128 .f32) (K : PUnit → sProp 𝕄)
    (xt : Vec F S512x3072 .bf16) (h0 : (i 0).val = 0 → x0 = xt) (hq : ¬ (i 0).val = 0 → ldQ q i = qSlot xt) (hs : ¬ (i 0).val = 0 → ldS s i = sSlot xt) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare d6 ∗ (∃ d, owns (c : Thread nD τ) arg7 fullShare d) ∗ owns (c : Thread nD τ) arg8 fullShare d8
        ∗ owns (c : Thread nD τ) scQ fullShare q ∗ owns (c : Thread nD τ) scS fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (hcTile (qSlot xt) (sSlot xt) x2 x3)
            ∗ owns (c : Thread nD τ) arg6 fullShare (hsUpd (i 0).val (hRow (qSlot xt) (sSlot xt) x2 x3) d6)
            ∗ owns (c : Thread nD τ) arg7 fullShare (k0_pay9 (qSlot xt))
            ∗ owns (c : Thread nD τ) arg8 fullShare (xsUpd (i 0).val (xRow (sSlot xt)) d8)
            ∗ (∃ q', ⌜ldQ' q' i = qSlot x1⌝ ∗ owns (c : Thread nD τ) scQ fullShare q')
            ∗ (∃ s', ⌜ldS' s' i = sSlot x1⌝ ∗ owns (c : Thread nD τ) scS fullShare s')) -∗ K PUnit.unit))
      ⊢ wp frame (wpE (defs₀ (F := F)) Variants.none c none) Set.univ (cc0_geglu_fp8 i arg1 harg1 arg2 harg2 arg3 harg3 arg4 harg4 arg5 harg5 arg6 harg6 arg7 harg7 arg8 harg8 scQ (Memref.isWhole_whole _) scS (Memref.isWhole_whole _)) K := by
  by_cases hi : (i 0).val = 0
  · have h := run_first c i hi arg1 harg1 arg2 harg2 arg3 harg3 arg4 harg4 arg5 harg5 arg6 harg6 arg7 harg7 arg8 harg8 x0 x1 x2 x3 q s d6 d8 K
    rw [h0 hi] at h ⊢
    exact h
  · have h := run_later c i hi arg1 harg1 arg2 harg2 arg3 harg3 arg4 harg4 arg5 harg5 arg6 harg6 arg7 harg7 arg8 harg8 x0 x1 x2 x3 q s d6 d8 K
    rw [hq hi, hs hi] at h
    exact h

variable (m : (ℓ : Loc nD τ sig) → Buf (Elt F) ℓ) (ρ : Dev nD → PrngReg)

/-- The tile of activations that grid point `n` works from: the first is window 0's block, the next ones are those the
    predecessors find in window 1. -/
def xT (c : Dev nD) : ℕ → Vec F S512x3072 .bf16
  | 0 => iblk m c 0 t0_0
  | n + 1 => if h : n < cfg0.N then iblk m c 1 ⟨n, h⟩ else iblk m c 0 t0_0

/-- The weights, -/
def xW (c : Dev nD) : Vec F S3072x3072 .fp8e4m3 := iblk m c 2 t0_0
/-- and their scales. -/
def xV (c : Dev nD) : Vec F S1x3072 .f32 := iblk m c 3 t0_0

/-- The hidden codes grid point `n` leaves, -/
def hcOut (c : Dev nD) (n : ℕ) : Vec F S512x1536 .fp8e4m3 := hcTile (qSlot (xT m c n)) (sSlot (xT m c n)) (xW m c) (xV m c)
/-- its rows of hidden scales, -/
def hsOut (c : Dev nD) (n : ℕ) : Fin 12 → Fin 4 → FVec F S1x128 .f32 := hRow (qSlot (xT m c n)) (sSlot (xT m c n)) (xW m c) (xV m c)
/-- its activation codes -/
def xcOut (c : Dev nD) (n : ℕ) : Vec F S512x3072 .fp8e4m3 := k0_pay9 (qSlot (xT m c n))
/-- and its rows of activation scales. -/
def xsOut (c : Dev nD) (n : ℕ) : Fin 4 → FVec F S1x128 .f32 := xRow (sSlot (xT m c n))

/-- The hidden scales are right in the rows of the grid points up to `n`. -/
def hsOK (c : Dev nD) (n : ℕ) (X : Vec F S768x128 .f32) : Prop :=
  ∀ y : S768x128.Idx, hsPoint (y 0).val ≤ n → X y = hsAt (hsOut m c (hsPoint (y 0).val)) y

/-- The activation scales are right in the rows of the grid points up to `n`. -/
def xsOK (c : Dev nD) (n : ℕ) (X : Vec F S64x128 .f32) : Prop :=
  ∀ y : S64x128.Idx, (y 0).val / 4 ≤ n → X y = xsAt (xsOut m c ((y 0).val / 4)) y

/-- One more grid point's rows of hidden scales. -/
theorem hsOK_upd (c : Dev nD) (n : ℕ) (X : Vec F S768x128 .f32) (h : 0 < n → hsOK m c (n - 1) X) :
    hsOK m c n (hsUpd n (hsOut m c n) X) := by
  intro y hy
  unfold hsUpd
  by_cases e : hsPoint (y 0).val = n
  · rw [if_pos e, e]
  · rw [if_neg e]
    exact h (by omega) y (by omega)

/-- One more grid point's rows of activation scales. -/
theorem xsOK_upd (c : Dev nD) (n : ℕ) (X : Vec F S64x128 .f32) (h : 0 < n → xsOK m c (n - 1) X) :
    xsOK m c n (xsUpd n (xsOut m c n) X) := by
  intro y hy
  unfold xsUpd
  by_cases e : (y 0).val / 4 = n
  · rw [if_pos e, e]
  · rw [if_neg e]
    exact h (by omega) y (by omega)

/-- The invariant between grid points: after point `u` the slot it has filled holds the next tile's codes and scales. -/
def Phi (c : Dev nD) : ℕ → sProp 𝕄
  | 0 => iprop((∃ q, owns (c : Thread nD τ) scQ fullShare q) ∗ (∃ s, owns (c : Thread nD τ) scS fullShare s) ∗ ∃ r, prngReg c r)
  | n + 1 => if h : n < cfg0.N then
      iprop((∃ q, ⌜ldQ' q (grid0.coords ⟨n, h⟩) = qSlot (xT m c (n + 1))⌝ ∗ owns (c : Thread nD τ) scQ fullShare q)
        ∗ (∃ s, ⌜ldS' s (grid0.coords ⟨n, h⟩) = sSlot (xT m c (n + 1))⌝ ∗ owns (c : Thread nD τ) scS fullShare s) ∗ ∃ r, prngReg c r)
    else iprop((∃ q, owns (c : Thread nD τ) scQ fullShare q) ∗ (∃ s, owns (c : Thread nD τ) scS fullShare s) ∗ ∃ r, prngReg c r)

/-- The exact part of the proof data on core `c`. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => hcOut m c t.val
    | ⟨5, _⟩ => hsAt (hsOut m c t.val)
    | ⟨6, _⟩ => xcOut m c t.val
    | ⟨7, _⟩ => xsAt (xsOut m c t.val)
  Φ t := Phi m c t.val
  q w := Pipeline.shareOf spec0 w
  owed _ := 0

/-- The windows held to a predicate: the two arrays of scales. -/
def marked : Fin cfg0.W → Bool
  | ⟨5, _⟩ => true
  | ⟨7, _⟩ => true
  | _ => false

/-- What they are held to after point `t`. -/
def Rl (c : Dev nD) : (w : Fin cfg0.W) → Fin cfg0.N → ((cfg0.win w).block.Idx → Elt F (cfg0.win w).elt) → Prop
  | ⟨5, _⟩, t, X => hsOK m c t.val X
  | ⟨7, _⟩, t, X => xsOK m c t.val X
  | _, _, _ => True

theorem A_eq (c : Dev nD) (w : Fin cfg0.W) : (dat m c).A w = V m c (Pipeline.arrRef spec0 w) := by
  dsimp only [dat]
theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) : (dat m c).after 3 t = iblk m c 3 t := by dsimp only [dat]
theorem after0_4 (c : Dev nD) (t : Fin cfg0.N) : (dat m c).after 4 t = hcOut m c t.val := by dsimp only [dat]
theorem after0_6 (c : Dev nD) (t : Fin cfg0.N) : (dat m c).after 6 t = xcOut m c t.val := by dsimp only [dat]

theorem before0_0 (c : Dev nD) (t : Fin cfg0.N) (d) : (dat m c).before 0 t d = iblk m c 0 t :=
  before0_0_of m (dat m c) (A_eq m c 0) (after0_0 m c) t d
theorem before0_1 (c : Dev nD) (t : Fin cfg0.N) (d) : (dat m c).before 1 t d = iblk m c 1 t :=
  before0_1_of m (dat m c) (A_eq m c 1) (after0_1 m c) t d
theorem before0_2 (c : Dev nD) (t : Fin cfg0.N) (d) : (dat m c).before 2 t d = iblk m c 2 t :=
  before0_2_of m (dat m c) (A_eq m c 2) (after0_2 m c) t d
theorem before0_3 (c : Dev nD) (t : Fin cfg0.N) (d) : (dat m c).before 3 t d = iblk m c 3 t :=
  before0_3_of m (dat m c) (A_eq m c 3) (after0_3 m c) t d

/-- The windows of the weights and of their scales stay on one block. -/
theorem iblk2_const (c : Dev nD) (t : Fin cfg0.N) : iblk m c 2 t = xW m c := rfl
theorem iblk3_const (c : Dev nD) (t : Fin cfg0.N) : iblk m c 3 t = xV m c := rfl

/-- What the hidden scales' window holds when point `t` finds it. -/
theorem finds5 (c : Dev nD) (t : Fin cfg0.N) (Y) (h : ((dat m c).toRRel marked (Rl m c)).Finds 5 t Y) (ht : 0 < t.val) :
    hsOK m c (t.val - 1) Y := by
  have hN : t.val < 16 := t.isLt
  have hfe : (cfg0.win 5).fetch t = false := rfl
  rcases (RDat.finds_of_pos _ hfe (by omega) Y).mp h with hf | hl
  · have := (flush0_5 _).mp hf
    simp only at this
    omega
  · exact Dat.toRRel_leaves (dat m c) (w := 5) rfl hl

/-- What the activation scales' window holds when point `t` finds it. -/
theorem finds7 (c : Dev nD) (t : Fin cfg0.N) (Y) (h : ((dat m c).toRRel marked (Rl m c)).Finds 7 t Y) (ht : 0 < t.val) :
    xsOK m c (t.val - 1) Y := by
  have hN : t.val < 16 := t.isLt
  have hfe : (cfg0.win 7).fetch t = false := rfl
  rcases (RDat.finds_of_pos _ hfe (by omega) Y).mp h with hf | hl
  · have := (flush0_7 _).mp hf
    simp only at this
    omega
  · exact Dat.toRRel_leaves (dat m c) (w := 7) rfl hl

end Cert.KernelIdeal.Hand
end
-- ==== Proof.Run.lean ====
module

public import proofs.«01_k».proof.Proof.Point
public import proofs.«01_k».proof.Proof.Gen.KernelIdeal.Frame
public import proofs.«01_k».proof.Proof.Gen.KernelIdeal.Points
public import Idealize.ShloMosaic.Lib.Pipeline.DatRel
public import Idealize.ShloMosaic.Lib.Pipeline.ArrRel
public import Idealize.ShloMosaic.Lib.Tactic

@[expose] public section

set_option maxRecDepth 16384

/-!
# The run of the whole kernel and its frame
-/

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat RDat BodyObligationRel)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant after point `n`. -/
theorem Phi_succ (c : Dev nD) (n : ℕ) (h : n < cfg0.N) : Phi m c (n + 1) =
    iprop((∃ q, ⌜ldQ' q (grid0.coords ⟨n, h⟩) = qSlot (xT m c (n + 1))⌝ ∗ owns (c : Thread nD τ) scQ fullShare q)
        ∗ (∃ s, ⌜ldS' s (grid0.coords ⟨n, h⟩) = sSlot (xT m c (n + 1))⌝ ∗ owns (c : Thread nD τ) scS fullShare s) ∗ ∃ r, prngReg c r) :=
  dif_pos h

/-- The invariant past the grid, which no grid point meets. -/
theorem Phi_past (c : Dev nD) (n : ℕ) (h : ¬ n < cfg0.N) : Phi m c (n + 1) =
    iprop((∃ q, owns (c : Thread nD τ) scQ fullShare q) ∗ (∃ s, owns (c : Thread nD τ) scS fullShare s) ∗ ∃ r, prngReg c r) :=
  dif_neg h

/-- A later point's tile is the block its predecessor finds in window 1. -/
theorem xT_succ (c : Dev nD) (t : Fin cfg0.N) : xT m c (t.val + 1) = iblk m c 1 t := dif_pos t.isLt

/-- Before the first grid point the scratches hold anything. -/
theorem Phi_in (c : Dev nD) : (Pipeline.ΦA spec0 c : sProp 𝕄) ⊢ Phi m c 0 := by
  unfold Pipeline.ΦA Phi
  rw [scopedRest0_eq]; simp only [scQ, scS, owns_whole]
  iintro ⟨⟨H1, H2⟩, H3⟩
  isplitl [H1]; · iexact H1
  isplitl [H2]; · iexact H2
  iexact H3

/-- After any grid point the scratches hold something. -/
theorem Phi_out (c : Dev nD) (n : ℕ) : Phi m c n ⊢ (Pipeline.ΦA spec0 c : sProp 𝕄) := by
  unfold Pipeline.ΦA
  rw [scopedRest0_eq]
  cases n with
  | zero =>
    unfold Phi
    simp only [scQ, scS, owns_whole]
    iintro ⟨H1, H2, H3⟩
    isplitl [H1 H2]
    · isplitl [H1]; · iexact H1
      iexact H2
    iexact H3
  | succ n =>
    by_cases h : n < cfg0.N
    · rw [Phi_succ m c n h]
      simp only [scQ, scS, owns_whole]
      iintro ⟨⟨%q, -, H1⟩, ⟨%s, -, H2⟩, H3⟩
      isplitl [H1 H2]
      · isplitl [H1]; · iexists q; iexact H1
        iexists s; iexact H2
      iexact H3
    · rw [Phi_past m c n h]
      simp only [scQ, scS, owns_whole]
      iintro ⟨H1, H2, H3⟩
      isplitl [H1 H2]
      · isplitl [H1]; · iexact H1
        iexact H2
      iexact H3

/-- What a grid point finds in the scratches: at the first anything, later the codes and scales of its tile. -/
theorem Phi_find (c : Dev nD) (t : Fin cfg0.N) : Phi m c t.val ⊢
    (iprop(∃ q s, ⌜¬ ((grid0.coords t) 0).val = 0 → ldQ q (grid0.coords t) = qSlot (xT m c t.val)⌝
      ∗ ⌜¬ ((grid0.coords t) 0).val = 0 → ldS s (grid0.coords t) = sSlot (xT m c t.val)⌝
      ∗ owns (c : Thread nD τ) scQ fullShare q ∗ owns (c : Thread nD τ) scS fullShare s ∗ ∃ r, prngReg c r) : sProp 𝕄) := by
  rcases t with ⟨n, hn⟩
  cases n with
  | zero =>
    unfold Phi
    iintro ⟨⟨%q, H1⟩, ⟨%s, H2⟩, H3⟩
    iexists q, s
    isplitr; · ipureintro; intro h; exact absurd (coords_val _) h
    isplitr; · ipureintro; intro h; exact absurd (coords_val _) h
    isplitl [H1]; · iexact H1
    isplitl [H2]; · iexact H2
    iexact H3
  | succ n =>
    have h : n < cfg0.N := Nat.lt_of_succ_lt hn
    show Phi m c (n + 1) ⊢ _
    rw [Phi_succ m c n h]
    iintro ⟨⟨%q, %hq, H1⟩, ⟨%s, %hs, H2⟩, H3⟩
    iexists q, s
    isplitr; · ipureintro; intro _; exact (ldQ_succ q ⟨n + 1, hn⟩ ⟨n, h⟩ rfl).trans hq
    isplitr; · ipureintro; intro _; exact (ldS_succ s ⟨n + 1, hn⟩ ⟨n, h⟩ rfl).trans hs
    isplitl [H1]; · iexact H1
    isplitl [H2]; · iexact H2
    iexact H3

/-- What a grid point leaves in them. -/
theorem Phi_leave (c : Dev nD) (t : Fin cfg0.N) :
    (iprop((∃ q', ⌜ldQ' q' (grid0.coords t) = qSlot (iblk m c 1 t)⌝ ∗ owns (c : Thread nD τ) scQ fullShare q')
        ∗ (∃ s', ⌜ldS' s' (grid0.coords t) = sSlot (iblk m c 1 t)⌝ ∗ owns (c : Thread nD τ) scS fullShare s') ∗ ∃ r, prngReg c r) : sProp 𝕄)
      ⊢ Phi m c (t.val + 1) := by
  rw [Phi_succ m c t.val t.isLt, xT_succ]

/-- The first grid point's tile is the block of window 0. -/
theorem xT_zero (c : Dev nD) (t : Fin cfg0.N) (h : ((grid0.coords t) 0).val = 0) : iblk m c 0 t = xT m c t.val := by
  rw [coords_val] at h
  have : t = t0_0 := Fin.ext h
  subst this
  rfl

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ Y, ⌜((dat m c).toRRel marked (Rl m c)).Finds 5 t Y⌝ ∗ owns (c : Thread nD τ) (st0_5 t) fullShare Y)
    ∗ (∃ d, owns (c : Thread nD τ) (st0_6 t) fullShare ((dat m c).before 6 t d))
    ∗ (∃ Y, ⌜((dat m c).toRRel marked (Rl m c)).Finds 7 t Y⌝ ∗ owns (c : Thread nD τ) (st0_7 t) fullShare Y))

/-- and what it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ (∃ X, ⌜Rl m c 5 t X⌝ ∗ owns (c : Thread nD τ) (st0_5 t) fullShare X)
    ∗ owns (c : Thread nD τ) (st0_6 t) fullShare ((dat m c).after 6 t)
    ∗ (∃ X, ⌜Rl m c 7 t X⌝ ∗ owns (c : Thread nD τ) (st0_7 t) fullShare X))

set_option maxHeartbeats 2000000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dat m c).Φ t.succ = Phi m c (t.val + 1) from rfl, show (dat m c).Φ t.castSucc = Phi m c t.val from rfl,
    show (dat m c).owesAt () t.succ = (dat m c).owesAt () t.castSucc from rfl,
    after0_0, after0_1, after0_2, after0_3, after0_4, after0_6]
  iintro ⟨HΦ, Ho, ⟨%d0, H0⟩, ⟨%d1, H1⟩, ⟨%d2, H2⟩, ⟨%d3, H3⟩, ⟨%d4, H4⟩, ⟨%d5, %h5, H5⟩, ⟨%d6, H6⟩, ⟨%d7, %h7, H7⟩⟩
  ihave HΦ := (Phi_find m c t) $$ HΦ
  icases HΦ with ⟨%q, %s, %hq, %hs, HQ, HS, HR⟩
  iapply (run_point c (grid0.coords t) _ _ _ _ _ _ _ _ _ _ _ _ _ _ _ _ (iblk m c 0 t) (iblk m c 1 t) (iblk m c 2 t) (iblk m c 3 t)
    q s d5 d7 _ (xT m c t.val) (xT_zero m c t) hq hs)
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  isplitl [H7]; · iexact H7
  isplitl [HQ]; · iexact HQ
  isplitl [HS]; · iexact HS
  iintro ⟨H0, H1, H2, H3, H4, H5, H6, H7, HQ, HS⟩
  isplitl [HQ HS HR]
  · iapply (Phi_leave m c t)
    isplitl [HQ]; · iexact HQ
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr
    swap; · iexact H5
    ipureintro
    rw [coords_val]
    exact hsOK_upd m c t.val d5 (finds5 m c t d5 h5)
  isplitl [H6]; · iexact H6
  · iexists _; isplitr
    swap; · iexact H7
    ipureintro
    rw [coords_val]
    exact xsOK_upd m c t.val d7 (finds7 m c t d7 h7)

/-- The body table's row at a point's staging buffers is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) :
    BodyObligationRel (dat (F := F) m c) (defs₀ (F := F)) Variants.none () Set.univ marked (Rl m c) := fun t => by
  rw [bigSep_W0, bigSep_W0, defs₀_row]
  exact triple_restated (sound_body m c t) rfl .rfl fun _ => .rfl

/-- The relational proof data. -/
def rdat (c : Dev nD) : RDat τ (Elt F) Unit ℕ (UR sig nD τ) ℕ cfg0 c := (dat m c).toRRel marked (Rl m c)

set_option backward.isDefEq.respectTransparency.types false in
set_option maxHeartbeats 800000 in
/-- The run of the kernel. -/
theorem run_main_quiescent : θ_run defs (onTc (τ := τ) (main (F := F))) (s₀ m ρ)
    (fun r => (RDat.FramePost cfg0 (rdat m) (V m)) r ∧ r.2.sem = fun _ => 0) :=
  Pipeline.RDat.θ_run_frame_track_shared (Q' := _) cfgs (0 : Fin 1) launch₀0 defs₀ Variants.none (rdat m) m ρ main
    (fun c => (body_obligation m c).toRRel) (fun _ _ _ => rfl) (fun _ _ => rfl) (V m) (hmain m Variants.none) (A_eq m)
    (Phi_in m) (fun c => Phi_out m c 16)

/-- The kernel leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      (RDat.FramePost.arr_in h.1 c 2 rfl).trans ((A_eq m c 2).trans (V_main_arg1 m c)),
      ((h.1 c).2 main_arg2 (Pipeline.mem_restRefs_of main_arg2 (by decide) (by decide))).trans (V_main_arg2 m c)⟩, h.2⟩) (run_main_quiescent m ρ)

end Cert.KernelIdeal.Hand
end
-- ==== Proof.K.Spec.lean ====
module

public import proofs.«01_k».proof.Proof.Gen.Kernel.Skeleton
public import Idealize.ShloMosaic.Lib.Pipeline.Frame
public import Idealize.ShloMosaic.Lib.Pipeline.FrameBody
public import Idealize.ShloMosaic.Lib.Pointwise.Index

@[expose] public section

set_option maxRecDepth 16384

/-!
# What one grid point of the kernel computes

A grid point `i` works on the 512-row tile `i` of the flattened activations. The functions here name what it leaves
in the four result windows and in the two double-buffered scratches, from the tile's quantised codes and scales
(`v7`, `v11`, as the scratch slot holds them), the packed weights `x2` and their scales `x3`. They are written for
any float instance.
-/

noncomputable section

namespace Cert.Kernel.Hand

open Cert.Kernel Cert.Kernel.Gen
open Idealize.ShloMosaic Idealize.ShloMosaic.TcCoe

variable {F : FTy → Type} [FloatOps F]

/-- The scratch slot of codes the quantiser leaves for a tile `x`. -/
def qSlot (x : Vec F S512x3072 .bf16) : Vec F S1x512x3072 .fp8e4m3 := k0_pay7 (k0_pay5 x) k0_pay6

/-- The scratch slot of scales the quantiser leaves for a tile `x`, one scale per row repeated over the lanes. -/
def sSlot (x : Vec F S512x3072 .bf16) : Vec F S1x512x128 .f32 := k0_pay8 (k0_pay4 x)

theorem chunk_inb (up : Fin 2) (g : Fin 12) :
    ∀ a, (![0, 1536 * up.val + 256 * (g.val / 2)] : Fin 2 → Nat) a + S3072x256.size a ≤ S3072x3072.size a := by
  revert up g; decide

theorem scale_inb (up : Fin 2) (g : Fin 12) :
    ∀ a, (![0, 1536 * up.val + 128 * g.val] : Fin 2 → Nat) a + S1x128.size a ≤ S1x3072.size a := by
  revert up g; decide

theorem half_slices (g : Fin 12) : S512x256.Slices ![0, 128 * (g.val % 2)] S512x128 := by
  revert g; decide

/-- The 256 weight columns that hold hidden group `g`'s columns, of the gate half (`up = 0`) or the up half (`up = 1`). -/
def chunk (x2 : Vec F S3072x3072 .fp8e4m3) (up : Fin 2) (g : Fin 12) : Vec F S3072x256 .fp8e4m3 :=
  View.ld x2 (Rect.unit (s := S3072x3072) ![0, 1536 * up.val + 256 * (g.val / 2)] S3072x256.size (chunk_inb up g))

/-- The 128 weight scales of hidden group `g`. -/
def scaleRow (x3 : Vec F S1x3072 .f32) (up : Fin 2) (g : Fin 12) : Vec F S1x128 .f32 :=
  View.ld x3 (Rect.unit (s := S1x3072) ![0, 1536 * up.val + 128 * g.val] S1x128.size (scale_inb up g))

/-- The dequantised gate (`up = 0`) or up (`up = 1`) block of hidden group `g`. -/
def half (v7 : Vec F S1x512x3072 .fp8e4m3) (v11 : Vec F S1x512x128 .f32) (x2 : Vec F S3072x3072 .fp8e4m3) (x3 : Vec F S1x3072 .f32)
    (up : Fin 2) (g : Fin 12) : FVec F S512x128 .f32 :=
  mulf (mulf (extractStridedSlice S512x128 ![0, 128 * (g.val % 2)] (k0_pay23 (k0_pay9 v7) (chunk x2 up g)) (half_slices g)) (k0_pay10 v11))
    (broadcastTo S512x128 (shapeCast S1x128 (scaleRow x3 up g) shapeCasts_S1x128_S1x128) broadcasts_S1x128_S512x128)

/-- The argument of the hyperbolic tangent in `gelu`, before its constant factor. -/
def inner (G : FVec F S512x128 .f32) : FVec F S512x128 .f32 :=
  addf G (mulf (broadcast S512x128 (Scalar.ofBits .f32 0x3D372713#32)) (mulf (mulf G G) G))

/-- The scale column of a hidden block with gate `G` and up `U`. -/
def hCol (G U : FVec F S512x128 .f32) : FVec F S512x1 .f32 := k0_pay31 G U (inner G) k0_pay28

/-- The codes of a hidden block with gate `G` and up `U`. -/
def hCode (G U : FVec F S512x128 .f32) : FVec F S512x128 .fp8e4m3 :=
  k0_pay33 (k0_pay32 G U (inner G) k0_pay28) (Scalar.ofBits .f32 0xC3E00000#32)

/-- The 128 scales of sub-tile `k`, laid along the lanes. -/
def diagRow (C : FVec F S512x1 .f32) : Fin 4 → FVec F S1x128 .f32
  | 0 => k0_pay35 C
  | 1 => k0_pay36 C
  | 2 => k0_pay37 (k0_pay34 C)
  | 3 => k0_pay38 (k0_pay34 C)

/-- The 128 activation scales of sub-tile `k`, laid along the lanes. -/
def xRow (v11 : Vec F S1x512x128 .f32) : Fin 4 → FVec F S1x128 .f32
  | 0 => k0_pay11 v11
  | 1 => k0_pay12 v11
  | 2 => k0_pay13 (k0_pay10 v11)
  | 3 => k0_pay14 (k0_pay10 v11)

/-- The hidden codes of the tile. -/
def hcTile (v7 : Vec F S1x512x3072 .fp8e4m3) (v11 : Vec F S1x512x128 .f32) (x2 : Vec F S3072x3072 .fp8e4m3) (x3 : Vec F S1x3072 .f32) :
    Vec F S512x1536 .fp8e4m3 := fun y =>
  let g : Fin 12 := ⟨(y 1).val / 128, Nat.div_lt_of_lt_mul (y 1).isLt⟩
  hCode (half v7 v11 x2 x3 0 g) (half v7 v11 x2 x3 1 g) (ix2 (y 0) ⟨(y 1).val % 128, Nat.mod_lt _ (by decide)⟩)

/-- The row of hidden scales of group `g`, sub-tile `k`. -/
def hRow (v7 : Vec F S1x512x3072 .fp8e4m3) (v11 : Vec F S1x512x128 .f32) (x2 : Vec F S3072x3072 .fp8e4m3) (x3 : Vec F S1x3072 .f32)
    (g : Fin 12) (k : Fin 4) : FVec F S1x128 .f32 :=
  diagRow (hCol (half v7 v11 x2 x3 0 g) (half v7 v11 x2 x3 1 g)) k

/-- The hidden scales' result array, entry by entry, from the tiles' rows `R`: row `64 g + 4 c + b` holds group `g`'s scales
    of sub-tile `16 b + c`. -/
def hsAt (R : Fin 12 → Fin 4 → FVec F S1x128 .f32) : Vec F S768x128 .f32 := fun y =>
  R ⟨(y 0).val / 64, Nat.div_lt_of_lt_mul (y 0).isLt⟩ ⟨((y 0).val % 64 / 4) % 4, Nat.mod_lt _ (by decide)⟩ (ix2 0 (y 1))

/-- The grid point that writes row `r` of the hidden scales. -/
def hsPoint (r : ℕ) : ℕ := r % 4 * 4 + r % 64 / 16

/-- The activation scales' result array, entry by entry: row `r` is sub-tile `r`. -/
def xsAt (R : Fin 4 → FVec F S1x128 .f32) : Vec F S64x128 .f32 := fun y =>
  R ⟨(y 0).val % 4, Nat.mod_lt _ (by decide)⟩ (ix2 0 (y 1))

/-- Grid point `t` overwrites its own rows of the hidden scales and keeps the others. -/
def hsUpd (t : ℕ) (R : Fin 12 → Fin 4 → FVec F S1x128 .f32) (d : Vec F S768x128 .f32) : Vec F S768x128 .f32 := fun y =>
  if hsPoint (y 0).val = t then hsAt R y else d y

/-- Grid point `t` overwrites its own rows of the activation scales and keeps the others. -/
def xsUpd (t : ℕ) (R : Fin 4 → FVec F S1x128 .f32) (d : Vec F S64x128 .f32) : Vec F S64x128 .f32 := fun y =>
  if (y 0).val / 4 = t then xsAt R y else d y

end Cert.Kernel.Hand
end
-- ==== Proof.K.Pieces.lean ====
module

public import proofs.«01_k».proof.Proof.K.Spec

@[expose] public section

set_option maxRecDepth 16384

/-!
# The stores of one grid point, as lists of pieces

The scale rows and the code columns that a grid point stores, read back from the buffer they were stored to.
-/

noncomputable section

namespace Cert.Kernel.Hand

open Cert.Kernel Cert.Kernel.Gen
open Idealize.ShloMosaic Idealize.ShloMosaic.TcCoe

variable {F : FTy → Type} [FloatOps F]

/-- The row of the hidden scales that grid point `i` stores for group `g` and sub-tile `k`. -/
theorem off6_eq : ∀ (i : grid0.Coords) (g : Fin 12) (k : Fin 4),
    k0_off6 i (BitVec.ofNat 32 (64 * g.val)) (BitVec.ofNat 32 k.val)
      = ![64 * g.val + (4 * ((i 0).val % 4) + k.val) * 4 + (i 0).val / 4, 0] := by decide +kernel

theorem off6_inb (i : grid0.Coords) (g : Fin 12) (k : Fin 4) :
    ∀ a, k0_off6 i (BitVec.ofNat 32 (64 * g.val)) (BitVec.ofNat 32 k.val) a + S1x128.size a ≤ S768x128.size a := by
  rw [off6_eq]
  have h0 : (i 0).val < 16 := (i 0).isLt
  intro a
  match a with
  | 0 => show 64 * g.val + (4 * ((i 0).val % 4) + k.val) * 4 + (i 0).val / 4 + 1 ≤ 768; omega
  | 1 => show 0 + 128 ≤ 128; omega

theorem off3_inb (i : grid0.Coords) (k : Fin 4) :
    ∀ a, k0_off3 i (BitVec.ofNat 32 k.val) a + S1x128.size a ≤ S64x128.size a := by
  rw [k0_off3_eq]
  have h0 : (i 0).val < 16 := (i 0).isLt
  intro a
  match a with
  | 0 => show 4 * (i 0).val + k.val + 1 ≤ 64; omega
  | 1 => show 0 + 128 ≤ 128; omega

/-- Row `64 g + 4 c + b` taken apart: its group, its sub-tile within a grid point, its grid point. -/
theorem row_parts (g k i : ℕ) (hk : k < 4) (hi : i < 16) :
    (64 * g + (4 * (i % 4) + k) * 4 + i / 4) / 64 = g ∧ (64 * g + (4 * (i % 4) + k) * 4 + i / 4) % 64 / 4 % 4 = k
      ∧ hsPoint (64 * g + (4 * (i % 4) + k) * 4 + i / 4) = i := by
  obtain ⟨s, q, hs, hq, rfl⟩ : ∃ s q, s < 4 ∧ q < 4 ∧ i = 4 * s + q := ⟨i / 4, i % 4, by omega, by omega, by omega⟩
  have e1 : (4 * s + q) % 4 = q := by omega
  have e2 : (4 * s + q) / 4 = s := by omega
  have e3 : (64 * g + (4 * q + k) * 4 + s) % 64 = 4 * (4 * q + k) + s := by omega
  have e4 : (4 * (4 * q + k) + s) / 4 = 4 * q + k := by omega
  rw [e1, e2, hsPoint, e3, e4]
  refine ⟨by omega, by omega, by omega⟩

/-- and put together again. -/
theorem row_whole (r : ℕ) : 64 * (r / 64) + (4 * (hsPoint r % 4) + r % 64 / 4 % 4) * 4 + hsPoint r / 4 = r := by
  obtain ⟨g, q, k, s, hq, hk, hs, rfl⟩ : ∃ g q k s, q < 4 ∧ k < 4 ∧ s < 4 ∧ r = 64 * g + 16 * q + 4 * k + s :=
    ⟨r / 64, r % 64 / 16, r % 16 / 4, r % 4, by omega, by omega, by omega, by omega⟩
  have e1 : hsPoint (64 * g + 16 * q + 4 * k + s) = 4 * s + q := by unfold hsPoint; omega
  have e2 : (64 * g + 16 * q + 4 * k + s) / 64 = g := by omega
  have e3 : (64 * g + 16 * q + 4 * k + s) % 64 / 4 % 4 = k := by
    rw [show (64 * g + 16 * q + 4 * k + s) % 64 = 4 * (4 * q + k) + s by omega, show (4 * (4 * q + k) + s) / 4 = 4 * q + k by omega]
    omega
  have e4 : (4 * s + q) % 4 = q := by omega
  have e5 : (4 * s + q) / 4 = s := by omega
  rw [e1, e2, e3, e4, e5]
  omega

/-- One stored row of hidden scales. -/
def hsPiece (i : grid0.Coords) (R : Fin 12 → Fin 4 → FVec F S1x128 .f32) (g : Fin 12) (k : Fin 4) :
    View.Piece (Elt F) S768x128 .f32 :=
  ⟨Rect.unit (s := S768x128) (k0_off6 i (BitVec.ofNat 32 (64 * g.val)) (BitVec.ofNat 32 k.val)) S1x128.size (off6_inb i g k), R g k⟩

/-- The 48 stored rows of hidden scales, the last one first. -/
def hsPieces (i : grid0.Coords) (R : Fin 12 → Fin 4 → FVec F S1x128 .f32) : List (View.Piece (Elt F) S768x128 .f32) :=
  [hsPiece i R 11 3, hsPiece i R 11 2, hsPiece i R 11 1, hsPiece i R 11 0, hsPiece i R 10 3, hsPiece i R 10 2, hsPiece i R 10 1,
   hsPiece i R 10 0, hsPiece i R 9 3, hsPiece i R 9 2, hsPiece i R 9 1, hsPiece i R 9 0, hsPiece i R 8 3, hsPiece i R 8 2,
   hsPiece i R 8 1, hsPiece i R 8 0, hsPiece i R 7 3, hsPiece i R 7 2, hsPiece i R 7 1, hsPiece i R 7 0, hsPiece i R 6 3,
   hsPiece i R 6 2, hsPiece i R 6 1, hsPiece i R 6 0, hsPiece i R 5 3, hsPiece i R 5 2, hsPiece i R 5 1, hsPiece i R 5 0,
   hsPiece i R 4 3, hsPiece i R 4 2, hsPiece i R 4 1, hsPiece i R 4 0, hsPiece i R 3 3, hsPiece i R 3 2, hsPiece i R 3 1,
   hsPiece i R 3 0, hsPiece i R 2 3, hsPiece i R 2 2, hsPiece i R 2 1, hsPiece i R 2 0, hsPiece i R 1 3, hsPiece i R 1 2,
   hsPiece i R 1 1, hsPiece i R 1 0, hsPiece i R 0 3, hsPiece i R 0 2, hsPiece i R 0 1, hsPiece i R 0 0]

/-- Every row of the list is one of the stored rows, -/
theorem of_mem_hsPieces {i : grid0.Coords} {R : Fin 12 → Fin 4 → FVec F S1x128 .f32} {p : View.Piece (Elt F) S768x128 .f32}
    (h : p ∈ hsPieces i R) : ∃ g k, p = hsPiece i R g k := by
  simp only [hsPieces, List.mem_cons, List.not_mem_nil, or_false] at h
  rcases h with h | h | h | h | h | h | h | h | h | h | h | h | h | h | h | h | h | h | h | h | h | h | h | h | h | h | h | h | h
    | h | h | h | h | h | h | h | h | h | h | h | h | h | h | h | h | h | h | h <;> exact ⟨_, _, h⟩

/-- and every stored row is in the list. -/
theorem mem_hsPieces (i : grid0.Coords) (R : Fin 12 → Fin 4 → FVec F S1x128 .f32) :
    ∀ (g : Fin 12) (k : Fin 4), hsPiece i R g k ∈ hsPieces i R := by
  intro g k
  match g, k with
  | 0, 0 | 0, 1 | 0, 2 | 0, 3 | 1, 0 | 1, 1 | 1, 2 | 1, 3 | 2, 0 | 2, 1 | 2, 2 | 2, 3 | 3, 0 | 3, 1 | 3, 2 | 3, 3
  | 4, 0 | 4, 1 | 4, 2 | 4, 3 | 5, 0 | 5, 1 | 5, 2 | 5, 3 | 6, 0 | 6, 1 | 6, 2 | 6, 3 | 7, 0 | 7, 1 | 7, 2 | 7, 3
  | 8, 0 | 8, 1 | 8, 2 | 8, 3 | 9, 0 | 9, 1 | 9, 2 | 9, 3 | 10, 0 | 10, 1 | 10, 2 | 10, 3 | 11, 0 | 11, 1 | 11, 2 | 11, 3 =>
    simp only [hsPieces, List.mem_cons, true_or, or_true]

/-- The row a piece is stored to. -/
theorem hsPiece_row (i : grid0.Coords) (R : Fin 12 → Fin 4 → FVec F S1x128 .f32) (g : Fin 12) (k : Fin 4)
    (x : (hsPiece i R g k).1.shape.Idx) :
    (((hsPiece i R g k).1.emb x) 0).val = 64 * g.val + (4 * ((i 0).val % 4) + k.val) * 4 + (i 0).val / 4 := by
  have hx : (x 0).val < 1 := (x 0).isLt
  show k0_off6 i (BitVec.ofNat 32 (64 * g.val)) (BitVec.ofNat 32 k.val) 0 + 1 * (x 0).val = _
  rw [off6_eq]
  show 64 * g.val + (4 * ((i 0).val % 4) + k.val) * 4 + (i 0).val / 4 + 1 * (x 0).val = _
  omega

/-- The lane of an entry of a stored row. -/
theorem hsPiece_lane (i : grid0.Coords) (R : Fin 12 → Fin 4 → FVec F S1x128 .f32) (g : Fin 12) (k : Fin 4)
    (x : (hsPiece i R g k).1.shape.Idx) : (((hsPiece i R g k).1.emb x) 1).val = (x 1).val := by
  show k0_off6 i (BitVec.ofNat 32 (64 * g.val)) (BitVec.ofNat 32 k.val) 1 + 1 * (x 1).val = _
  rw [off6_eq]
  show 0 + 1 * (x 1).val = _
  omega

/-- A stored row is the part of the whole array `hsAt R` at its place. -/
theorem hsPiece_ok (i : grid0.Coords) (R : Fin 12 → Fin 4 → FVec F S1x128 .f32) (g : Fin 12) (k : Fin 4)
    (x : (hsPiece i R g k).1.shape.Idx) : (hsPiece i R g k).2 x = hsAt R ((hsPiece i R g k).1.emb x) := by
  have h0 := hsPiece_row i R g k x
  have h1 := hsPiece_lane i R g k x
  have hi : (i 0).val < 16 := (i 0).isLt
  have hx : (x 0).val < 1 := (x 0).isLt
  generalize (hsPiece i R g k).1.emb x = y at h0 h1
  show R g k x = R _ _ _
  obtain ⟨p1, p2, -⟩ := row_parts g.val k.val (i 0).val k.isLt hi
  have e1 : (⟨(y 0).val / 64, Nat.div_lt_of_lt_mul (y 0).isLt⟩ : Fin 12) = g := Fin.ext (by show (y 0).val / 64 = _; rw [h0, p1])
  have e2 : (⟨((y 0).val % 64 / 4) % 4, Nat.mod_lt _ (by decide)⟩ : Fin 4) = k :=
    Fin.ext (by show ((y 0).val % 64 / 4) % 4 = _; rw [h0, p2])
  rw [e1, e2]
  congr 1
  funext a
  match a with
  | ⟨0, _⟩ => exact Fin.ext (by show (x 0).val = 0; omega)
  | ⟨1, _⟩ => exact Fin.ext h1.symm

/-- The buffer of hidden scales after the 48 rows are stored. -/
theorem read_hsPieces {sig' : RefSig} {κ : Kind} {sp : Space} (v : View sig' κ sp S768x128 .f32) (f : v.ty.Contents (Elt F))
    (i : grid0.Coords) (R : Fin 12 → Fin 4 → FVec F S1x128 .f32) :
    v.read (Elt F) (v.writes (Elt F) f (hsPieces i R)) = hsUpd (i 0).val R (v.read (Elt F) f) := by
  have hi : (i 0).val < 16 := (i 0).isLt
  funext y
  have hy0 : (y 0).val < 768 := (y 0).isLt
  by_cases h : hsPoint (y 0).val = (i 0).val
  · rw [View.read_writes_apply_of_pieces v f (hsAt R)]
    · rw [hsUpd, if_pos h]
    · rintro p hp x
      obtain ⟨g, k, rfl⟩ := of_mem_hsPieces hp
      exact hsPiece_ok i R g k x
    · refine ⟨_, mem_hsPieces i R ⟨(y 0).val / 64, by omega⟩ ⟨((y 0).val % 64 / 4) % 4, by omega⟩, ?_⟩
      rw [← Rect.map_emb_univ, Finset.mem_map]
      refine ⟨ix2 (n0 := 1) (n1 := 128) 0 (y 1), Finset.mem_univ _, ?_⟩
      funext a
      match a with
      | ⟨0, _⟩ =>
        refine Fin.ext ((hsPiece_row i R _ _ _).trans ?_)
        show 64 * ((y 0).val / 64) + (4 * ((i 0).val % 4) + ((y 0).val % 64 / 4) % 4) * 4 + (i 0).val / 4 = (y 0).val
        rw [← h]
        exact row_whole _
      | ⟨1, _⟩ => exact Fin.ext (hsPiece_lane i R _ _ _)
  · rw [View.read_writes_apply_of_forall_not_mem v f y]
    · rw [hsUpd, if_neg h]
    · rintro p hp hy
      obtain ⟨g, k, rfl⟩ := of_mem_hsPieces hp
      obtain ⟨x, rfl⟩ := (hsPiece i R g k).1.exists_idx_of_mem hy
      have h0 := hsPiece_row i R g k x
      exact h ((congrArg hsPoint h0).trans (row_parts g.val k.val (i 0).val k.isLt hi).2.2)

/-- One stored row of activation scales. -/
def xsPiece (i : grid0.Coords) (R : Fin 4 → FVec F S1x128 .f32) (k : Fin 4) : View.Piece (Elt F) S64x128 .f32 :=
  ⟨Rect.unit (s := S64x128) (k0_off3 i (BitVec.ofNat 32 k.val)) S1x128.size (off3_inb i k), R k⟩

/-- The 4 stored rows of activation scales, the last one first. -/
def xsPieces (i : grid0.Coords) (R : Fin 4 → FVec F S1x128 .f32) : List (View.Piece (Elt F) S64x128 .f32) :=
  [xsPiece i R 3, xsPiece i R 2, xsPiece i R 1, xsPiece i R 0]

theorem xsPiece_row (i : grid0.Coords) (R : Fin 4 → FVec F S1x128 .f32) (k : Fin 4) (x : (xsPiece i R k).1.shape.Idx) :
    (((xsPiece i R k).1.emb x) 0).val = 4 * (i 0).val + k.val := by
  have hx : (x 0).val < 1 := (x 0).isLt
  show k0_off3 i (BitVec.ofNat 32 k.val) 0 + 1 * (x 0).val = _
  rw [k0_off3_eq]
  show 4 * (i 0).val + k.val + 1 * (x 0).val = _
  omega

theorem xsPiece_lane (i : grid0.Coords) (R : Fin 4 → FVec F S1x128 .f32) (k : Fin 4) (x : (xsPiece i R k).1.shape.Idx) :
    (((xsPiece i R k).1.emb x) 1).val = (x 1).val := by
  show k0_off3 i (BitVec.ofNat 32 k.val) 1 + 1 * (x 1).val = _
  rw [k0_off3_eq]
  show 0 + 1 * (x 1).val = _
  omega

theorem of_mem_xsPieces {i : grid0.Coords} {R : Fin 4 → FVec F S1x128 .f32} {p : View.Piece (Elt F) S64x128 .f32}
    (h : p ∈ xsPieces i R) : ∃ k, p = xsPiece i R k := by
  simp only [xsPieces, List.mem_cons, List.not_mem_nil, or_false] at h
  rcases h with h | h | h | h <;> exact ⟨_, h⟩

theorem mem_xsPieces (i : grid0.Coords) (R : Fin 4 → FVec F S1x128 .f32) : ∀ k : Fin 4, xsPiece i R k ∈ xsPieces i R := by
  intro k
  match k with
  | 0 | 1 | 2 | 3 => simp only [xsPieces, List.mem_cons, true_or, or_true]

/-- The buffer of activation scales after the 4 rows are stored. -/
theorem read_xsPieces {sig' : RefSig} {κ : Kind} {sp : Space} (v : View sig' κ sp S64x128 .f32) (f : v.ty.Contents (Elt F))
    (i : grid0.Coords) (R : Fin 4 → FVec F S1x128 .f32) :
    v.read (Elt F) (v.writes (Elt F) f (xsPieces i R)) = xsUpd (i 0).val R (v.read (Elt F) f) := by
  have hi : (i 0).val < 16 := (i 0).isLt
  funext y
  have hy0 : (y 0).val < 64 := (y 0).isLt
  by_cases h : (y 0).val / 4 = (i 0).val
  · rw [View.read_writes_apply_of_pieces v f (xsAt R)]
    · rw [xsUpd, if_pos h]
    · rintro p hp x
      obtain ⟨k, rfl⟩ := of_mem_xsPieces hp
      have h0 := xsPiece_row i R k x
      have h1 := xsPiece_lane i R k x
      have hx : (x 0).val < 1 := (x 0).isLt
      generalize (xsPiece i R k).1.emb x = y at h0 h1
      show R k x = R _ _
      have e2 : (⟨(y 0).val % 4, Nat.mod_lt _ (by decide)⟩ : Fin 4) = k := Fin.ext (by show (y 0).val % 4 = _; omega)
      rw [e2]
      congr 1
      funext a
      match a with
      | ⟨0, _⟩ => exact Fin.ext (by show (x 0).val = 0; omega)
      | ⟨1, _⟩ => exact Fin.ext h1.symm
    · refine ⟨_, mem_xsPieces i R ⟨(y 0).val % 4, by omega⟩, ?_⟩
      rw [← Rect.map_emb_univ, Finset.mem_map]
      refine ⟨ix2 (n0 := 1) (n1 := 128) 0 (y 1), Finset.mem_univ _, ?_⟩
      funext a
      match a with
      | ⟨0, _⟩ =>
        refine Fin.ext ((xsPiece_row i R _ _).trans ?_)
        show 4 * (i 0).val + (y 0).val % 4 = (y 0).val
        omega
      | ⟨1, _⟩ => exact Fin.ext (xsPiece_lane i R _ _)
  · rw [View.read_writes_apply_of_forall_not_mem v f y]
    · rw [xsUpd, if_neg h]
    · rintro p hp hy
      obtain ⟨k, rfl⟩ := of_mem_xsPieces hp
      obtain ⟨x, rfl⟩ := (xsPiece i R k).1.exists_idx_of_mem hy
      have h0 := xsPiece_row i R k x
      refine h ((congrArg (· / 4) h0).trans ?_)
      show (4 * (i 0).val + k.val) / 4 = _
      omega

theorem code_inb (g : Fin 12) : ∀ a, (![0, 128 * g.val] : Fin 2 → Nat) a + S512x128.size a ≤ S512x1536.size a := by
  revert g; decide

/-- One stored block of hidden codes. -/
def hcPiece (R : Fin 12 → FVec F S512x128 .fp8e4m3) (g : Fin 12) : View.Piece (Elt F) S512x1536 .fp8e4m3 :=
  ⟨Rect.unit (s := S512x1536) ![0, 128 * g.val] S512x128.size (code_inb g), R g⟩

/-- The 12 stored blocks of hidden codes, the last one first. -/
def hcPieces (R : Fin 12 → FVec F S512x128 .fp8e4m3) : List (View.Piece (Elt F) S512x1536 .fp8e4m3) :=
  [hcPiece R 11, hcPiece R 10, hcPiece R 9, hcPiece R 8, hcPiece R 7, hcPiece R 6, hcPiece R 5, hcPiece R 4, hcPiece R 3,
   hcPiece R 2, hcPiece R 1, hcPiece R 0]

theorem of_mem_hcPieces {R : Fin 12 → FVec F S512x128 .fp8e4m3} {p : View.Piece (Elt F) S512x1536 .fp8e4m3}
    (h : p ∈ hcPieces R) : ∃ g, p = hcPiece R g := by
  simp only [hcPieces, List.mem_cons, List.not_mem_nil, or_false] at h
  rcases h with h | h | h | h | h | h | h | h | h | h | h | h <;> exact ⟨_, h⟩

theorem mem_hcPieces (R : Fin 12 → FVec F S512x128 .fp8e4m3) : ∀ g : Fin 12, hcPiece R g ∈ hcPieces R := by
  intro g
  match g with
  | 0 | 1 | 2 | 3 | 4 | 5 | 6 | 7 | 8 | 9 | 10 | 11 => simp only [hcPieces, List.mem_cons, true_or, or_true]

/-- The buffer of hidden codes after the 12 blocks are stored. -/
theorem read_hcPieces {sig' : RefSig} {κ : Kind} {sp : Space} (v : View sig' κ sp S512x1536 .fp8e4m3) (f : v.ty.Contents (Elt F))
    (R : Fin 12 → FVec F S512x128 .fp8e4m3) :
    v.read (Elt F) (v.writes (Elt F) f (hcPieces R))
      = fun y => R ⟨(y 1).val / 128, Nat.div_lt_of_lt_mul (y 1).isLt⟩ (ix2 (y 0) ⟨(y 1).val % 128, Nat.mod_lt _ (by decide)⟩) := by
  funext y
  have hy1 : (y 1).val < 1536 := (y 1).isLt
  rw [View.read_writes_apply_of_pieces v f
    (fun y => R ⟨(y 1).val / 128, Nat.div_lt_of_lt_mul (y 1).isLt⟩ (ix2 (y 0) ⟨(y 1).val % 128, Nat.mod_lt _ (by decide)⟩))]
  · rintro p hp x
    obtain ⟨g, rfl⟩ := of_mem_hcPieces hp
    have h0 : (((hcPiece R g).1.emb x) 0).val = (x 0).val := by show 0 + 1 * (x 0).val = _; omega
    have h1 : (((hcPiece R g).1.emb x) 1).val = 128 * g.val + (x 1).val := by show 128 * g.val + 1 * (x 1).val = _; omega
    have hx : (x 1).val < 128 := (x 1).isLt
    generalize (hcPiece R g).1.emb x = y at h0 h1
    show R g x = R _ _
    have e2 : (⟨(y 1).val / 128, Nat.div_lt_of_lt_mul (y 1).isLt⟩ : Fin 12) = g := Fin.ext (by show (y 1).val / 128 = _; omega)
    rw [e2]
    congr 1
    funext a
    match a with
    | ⟨0, _⟩ => exact Fin.ext h0.symm
    | ⟨1, _⟩ => exact Fin.ext (by show (x 1).val = (y 1).val % 128; omega)
  · refine ⟨_, mem_hcPieces R ⟨(y 1).val / 128, by omega⟩, ?_⟩
    rw [← Rect.map_emb_univ, Finset.mem_map]
    refine ⟨ix2 (n0 := 512) (n1 := 128) (y 0) ⟨(y 1).val % 128, Nat.mod_lt _ (by decide)⟩, Finset.mem_univ _, ?_⟩
    funext a
    match a with
    | ⟨0, _⟩ => exact Fin.ext (by show 0 + 1 * (y 0).val = (y 0).val; omega)
    | ⟨1, _⟩ => exact Fin.ext (by show 128 * ((y 1).val / 128) + 1 * ((y 1).val % 128) = (y 1).val; omega)

end Cert.Kernel.Hand
end
-- ==== Proof.K.Body.lean ====
module

public import proofs.«01_k».proof.Proof.K.Pieces
public import proofs.«01_k».proof.Proof.Gen.Kernel.Frame
public import Idealize.ShloMosaic.Lib.Tactic
public import Idealize.ShloMosaic.Lib.VecWindow

@[expose] public section

set_option maxRecDepth 16384

/-!
# One run of the kernel body

What the body leaves, from the contents of its windows and scratches: at the first grid point it quantises its own tile
first; at every grid point it reads the quantised tile from one scratch slot and quantises the next tile into the other.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two slots of quantised codes. -/
abbrev scQ : Memref sig .tc .vmem S2x512x3072 .fp8e4m3 := Memref.whole cc0_scratch0
/-- The two slots of scales. -/
abbrev scS : Memref sig .tc .vmem S2x512x128 .f32 := Memref.whole cc0_scratch1

/-- The body's test for the first grid point. -/
theorem first_iff : ∀ i : grid0.Coords,
    (Scalar.cmpi .ne (Scalar.extui (Scalar.cmpi .eq (BitVec.ofNat 32 (i 0).val) 0#32)) 0#32 = 1#1) ↔ (i 0).val = 0 := by
  decide +kernel

/-- The slot of codes that grid point `i` works from. -/
abbrev ldQ (q : Vec F S2x512x3072 .fp8e4m3) (i : grid0.Coords) : Vec F S1x512x3072 .fp8e4m3 :=
  View.ld q (Rect.unit (s := S2x512x3072) (k0_off1 i) S1x512x3072.size (k0_off1_inb i))
/-- The slot of scales that grid point `i` works from. -/
abbrev ldS (s : Vec F S2x512x128 .f32) (i : grid0.Coords) : Vec F S1x512x128 .f32 :=
  View.ld s (Rect.unit (s := S2x512x128) (k0_off2 i) S1x512x128.size (k0_off2_inb i))
/-- The slot of codes that grid point `i` fills for its successor. -/
abbrev ldQ' (q : Vec F S2x512x3072 .fp8e4m3) (i : grid0.Coords) : Vec F S1x512x3072 .fp8e4m3 :=
  View.ld q (Rect.unit (s := S2x512x3072) (k0_off4 i) S1x512x3072.size (k0_off4_inb i))
/-- The slot of scales that grid point `i` fills for its successor. -/
abbrev ldS' (s : Vec F S2x512x128 .f32) (i : grid0.Coords) : Vec F S1x512x128 .f32 :=
  View.ld s (Rect.unit (s := S2x512x128) (k0_off5 i) S1x512x128.size (k0_off5_inb i))

/-- A buffer of activation codes after one store of the whole of it. -/
theorem read_whole_piece {sig' : RefSig} {κ : Kind} {sp : Space} (v : View sig' κ sp S512x3072 .fp8e4m3) (f : v.ty.Contents (Elt F))
    (w : Vec F S512x3072 .fp8e4m3) :
    v.read (Elt F) (v.writes (Elt F) f [⟨Rect.unit (s := S512x3072) ![0, 0] S512x3072.size inb_S512x3072_S512x3072_0_0, w⟩]) = w :=
  View.read_writes_full v f inb_S512x3072_S512x3072_0_0 w []

/-- The slot of codes just stored. -/
theorem ldQ'_write (f : scQ.view.ty.Contents (Elt F)) (i : grid0.Coords) (w : Vec F S1x512x3072 .fp8e4m3)
    (L : List (View.Piece (Elt F) S2x512x3072 .fp8e4m3)) :
    ldQ' (scQ.view.read (Elt F) (scQ.view.writes (Elt F) f
      (⟨Rect.unit (s := S2x512x3072) (k0_off4 i) S1x512x3072.size (k0_off4_inb i), w⟩ :: L))) i = w :=
  funext fun x => View.read_writes_cons_emb scQ.view f
    (Rect.unit (s := S2x512x3072) (k0_off4 i) S1x512x3072.size (k0_off4_inb i)) w L x

/-- The slot of scales just stored. -/
theorem ldS'_write (f : scS.view.ty.Contents (Elt F)) (i : grid0.Coords) (w : Vec F S1x512x128 .f32)
    (L : List (View.Piece (Elt F) S2x512x128 .f32)) :
    ldS' (scS.view.read (Elt F) (scS.view.writes (Elt F) f
      (⟨Rect.unit (s := S2x512x128) (k0_off5 i) S1x512x128.size (k0_off5_inb i), w⟩ :: L))) i = w :=
  funext fun x => View.read_writes_cons_emb scS.view f
    (Rect.unit (s := S2x512x128) (k0_off5 i) S1x512x128.size (k0_off5_inb i)) w L x

/-- The second copy of the quantiser in the body computes the same codes as the first, -/
theorem pay21_eq (x : Vec F S512x3072 .bf16) :
    k0_pay21 (k0_pay15 x) (k0_pay16 x) k0_pay17 k0_pay18 k0_pay19 2139095040#32 = qSlot x := rfl

/-- and the same scales. -/
theorem pay22_eq (x : Vec F S512x3072 .bf16) :
    k0_pay22 (k0_pay16 x) k0_pay17 k0_pay18 k0_pay19 2139095040#32 = sSlot x := rfl

set_option maxHeartbeats 8000000 in
/-- The body at a grid point other than the first. -/
theorem run_later (c : Dev nD) (i : grid0.Coords) (hi : ¬ (i 0).val = 0)
    (arg1 : Memref sig .tc .vmem S512x3072 .bf16) (harg1 : arg1.IsWhole) (arg2 : Memref sig .tc .vmem S512x3072 .bf16) (harg2 : arg2.IsWhole)
    (arg3 : Memref sig .tc .vmem S3072x3072 .fp8e4m3) (harg3 : arg3.IsWhole) (arg4 : Memref sig .tc .vmem S1x3072 .f32) (harg4 : arg4.IsWhole)
    (arg5 : Memref sig .tc .vmem S512x1536 .fp8e4m3) (harg5 : arg5.IsWhole) (arg6 : Memref sig .tc .vmem S768x128 .f32) (harg6 : arg6.IsWhole)
    (arg7 : Memref sig .tc .vmem S512x3072 .fp8e4m3) (harg7 : arg7.IsWhole) (arg8 : Memref sig .tc .vmem S64x128 .f32) (harg8 : arg8.IsWhole)
    (x0 : Vec F S512x3072 .bf16) (x1 : Vec F S512x3072 .bf16) (x2 : Vec F S3072x3072 .fp8e4m3) (x3 : Vec F S1x3072 .f32)
    (q : Vec F S2x512x3072 .fp8e4m3) (s : Vec F S2x512x128 .f32) (d6 : Vec F S768x128 .f32) (d8 : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare d6 ∗ (∃ d, owns (c : Thread nD τ) arg7 fullShare d) ∗ owns (c : Thread nD τ) arg8 fullShare d8
        ∗ owns (c : Thread nD τ) scQ fullShare q ∗ owns (c : Thread nD τ) scS fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (hcTile (ldQ q i) (ldS s i) x2 x3)
            ∗ owns (c : Thread nD τ) arg6 fullShare (hsUpd (i 0).val (hRow (ldQ q i) (ldS s i) x2 x3) d6)
            ∗ owns (c : Thread nD τ) arg7 fullShare (k0_pay9 (ldQ q i))
            ∗ owns (c : Thread nD τ) arg8 fullShare (xsUpd (i 0).val (xRow (ldS s i)) d8)
            ∗ (∃ q', ⌜ldQ' q' i = qSlot x1⌝ ∗ owns (c : Thread nD τ) scQ fullShare q')
            ∗ (∃ s', ⌜ldS' s' i = sSlot x1⌝ ∗ owns (c : Thread nD τ) scS fullShare s')) -∗ K PUnit.unit))
      ⊢ wp frame (wpE (defs₀ (F := F)) Variants.none c none) Set.univ (cc0_geglu_fp8 i arg1 harg1 arg2 harg2 arg3 harg3 arg4 harg4 arg5 harg5 arg6 harg6 arg7 harg7 arg8 harg8 scQ (Memref.isWhole_whole _) scS (Memref.isWhole_whole _)) K := by
  have hc : ¬ (Scalar.cmpi .ne (Scalar.extui (Scalar.cmpi .eq (BitVec.ofNat 32 (i 0).val) 0#32)) 0#32 = 1#1) :=
    fun h => hi ((first_iff i).mp h)
  simp only [cc0_geglu_fp8_eq_skeleton]; unfold cc0_geglu_fp8_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%f8, %hf8, H8⟩, ⟨%f9, %hf9, H9⟩, ⟨%f10, %hf10, H10⟩, HK⟩
  subst hf1 hf2 hf3 hf4 hf6 hf8 hf9 hf10
  sl_exec (disch := sl_exact hc)
  sl_step
  iapply HK
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro
    exact read_hcPieces arg5.view f5 (fun g => hCode (half (ldQ (View.read (Elt F) scQ.view f9) i) (ldS (View.read (Elt F) scS.view f10) i) (View.read (Elt F) arg3.view f3) (View.read (Elt F) arg4.view f4) 0 g) (half (ldQ (View.read (Elt F) scQ.view f9) i) (ldS (View.read (Elt F) scS.view f10) i) (View.read (Elt F) arg3.view f3) (View.read (Elt F) arg4.view f4) 1 g))
  isplitl [H6]
  · iexists _; isplitr
    swap; · iexact H6
    ipureintro
    exact read_hsPieces arg6.view f6 i
      (hRow (ldQ (View.read (Elt F) scQ.view f9) i) (ldS (View.read (Elt F) scS.view f10) i) (View.read (Elt F) arg3.view f3) (View.read (Elt F) arg4.view f4))
  isplitl [H7]
  · iexists _; isplitr
    swap; · iexact H7
    ipureintro
    exact read_whole_piece arg7.view f7 _
  isplitl [H8]
  · iexists _; isplitr
    swap; · iexact H8
    ipureintro
    exact read_xsPieces arg8.view f8 i (xRow (ldS (View.read (Elt F) scS.view f10) i))
  isplitl [H9]
  · iexists _; isplitr
    swap
    · iexists _; isplitr
      swap; · iexact H9
      ipureintro; rfl
    ipureintro
    delta run_later.sl.r_3 run_later.sl.r_4
    rw [ldQ'_write, pay21_eq]
    exact congrArg qSlot (View.readAt_full arg2.view f2 inb_S512x3072_S512x3072_0_0)
  · iexists _; isplitr
    swap
    · iexists _; isplitr
      swap; · iexact H10
      ipureintro; rfl
    ipureintro
    delta run_later.sl.r_4
    rw [ldS'_write, pay22_eq]
    exact congrArg sSlot (View.readAt_full arg2.view f2 inb_S512x3072_S512x3072_0_0)

end Cert.Kernel.Hand
end
-- ==== Proof.K.First.lean ====
module

public import proofs.«01_k».proof.Proof.K.Body
public import proofs.«01_k».proof.Proof.Gen.Kernel.Frame
public import Idealize.ShloMosaic.Lib.Tactic
public import Idealize.ShloMosaic.Lib.VecWindow

@[expose] public section

set_option maxRecDepth 16384

/-!
# One run of the kernel body at the first grid point

The first grid point quantises its own tile into the slot it then works from, besides the next tile into the other slot.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load of the box that the only store has just filled, the two boxes' offsets being equal, reads what was stored. -/
theorem readAt_same_box {sig' : RefSig} {κ : Kind} {sp : Space} {sh : Shape} {e : EltTy} {Val : EltTy → Type}
    (v : View sig' κ sp sh e) (f : v.ty.Contents Val) {off off' size : Fin sh.rank → Nat}
    (inb : ∀ a, off a + size a ≤ sh.size a) (inb' : ∀ a, off' a + size a ≤ sh.size a) (h : off = off')
    (w : (Rect.unit off' size inb').shape.Idx → Val e) :
    v.readAt Val (Rect.unit off size inb).toLoadRect (v.writes Val f [⟨Rect.unit off' size inb', w⟩]) = w := by
  subst h
  exact funext fun x => View.read_writes_cons_emb v f _ w [] x

/-- The slot the first grid point works from is the first. -/
theorem off1_first (i : grid0.Coords) (hi : (i 0).val = 0) : k0_off1 i = ![0, 0, 0] := by
  rw [k0_off1_eq, hi]

/-- The same for the scales. -/
theorem off2_first (i : grid0.Coords) (hi : (i 0).val = 0) : k0_off2 i = ![0, 0, 0] := by
  rw [k0_off2_eq, hi]

/-- The codes the first grid point works from are those it has just stored. -/
theorem ldQ_first (f : scQ.view.ty.Contents (Elt F)) (i : grid0.Coords) (hi : (i 0).val = 0)
    (inb : ∀ a, (![0, 0, 0] : Fin 3 → Nat) a + S1x512x3072.size a ≤ S2x512x3072.size a) (w : Vec F S1x512x3072 .fp8e4m3) :
    scQ.view.readAt (Elt F) (Rect.unit (s := S2x512x3072) (k0_off1 i) S1x512x3072.size (k0_off1_inb i)).toLoadRect
      (scQ.view.writes (Elt F) f [⟨Rect.unit (s := S2x512x3072) ![0, 0, 0] S1x512x3072.size inb, w⟩]) = w :=
  readAt_same_box (Val := Elt F) (sh := S2x512x3072) scQ.view f (off := k0_off1 i) (off' := ![0, 0, 0]) (size := S1x512x3072.size)
    (k0_off1_inb i) inb (off1_first i hi) w

/-- The scales the first grid point works from are those it has just stored. -/
theorem ldS_first (f : scS.view.ty.Contents (Elt F)) (i : grid0.Coords) (hi : (i 0).val = 0)
    (inb : ∀ a, (![0, 0, 0] : Fin 3 → Nat) a + S1x512x128.size a ≤ S2x512x128.size a) (w : Vec F S1x512x128 .f32) :
    scS.view.readAt (Elt F) (Rect.unit (s := S2x512x128) (k0_off2 i) S1x512x128.size (k0_off2_inb i)).toLoadRect
      (scS.view.writes (Elt F) f [⟨Rect.unit (s := S2x512x128) ![0, 0, 0] S1x512x128.size inb, w⟩]) = w :=
  readAt_same_box (Val := Elt F) (sh := S2x512x128) scS.view f (off := k0_off2 i) (off' := ![0, 0, 0]) (size := S1x512x128.size)
    (k0_off2_inb i) inb (off2_first i hi) w

set_option maxHeartbeats 8000000 in
/-- The body at the first grid point: it works from its own tile, which it has quantised itself. -/
theorem run_first (c : Dev nD) (i : grid0.Coords) (hi : (i 0).val = 0)
    (arg1 : Memref sig .tc .vmem S512x3072 .bf16) (harg1 : arg1.IsWhole) (arg2 : Memref sig .tc .vmem S512x3072 .bf16) (harg2 : arg2.IsWhole)
    (arg3 : Memref sig .tc .vmem S3072x3072 .fp8e4m3) (harg3 : arg3.IsWhole) (arg4 : Memref sig .tc .vmem S1x3072 .f32) (harg4 : arg4.IsWhole)
    (arg5 : Memref sig .tc .vmem S512x1536 .fp8e4m3) (harg5 : arg5.IsWhole) (arg6 : Memref sig .tc .vmem S768x128 .f32) (harg6 : arg6.IsWhole)
    (arg7 : Memref sig .tc .vmem S512x3072 .fp8e4m3) (harg7 : arg7.IsWhole) (arg8 : Memref sig .tc .vmem S64x128 .f32) (harg8 : arg8.IsWhole)
    (x0 : Vec F S512x3072 .bf16) (x1 : Vec F S512x3072 .bf16) (x2 : Vec F S3072x3072 .fp8e4m3) (x3 : Vec F S1x3072 .f32)
    (q : Vec F S2x512x3072 .fp8e4m3) (s : Vec F S2x512x128 .f32) (d6 : Vec F S768x128 .f32) (d8 : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare d6 ∗ (∃ d, owns (c : Thread nD τ) arg7 fullShare d) ∗ owns (c : Thread nD τ) arg8 fullShare d8
        ∗ owns (c : Thread nD τ) scQ fullShare q ∗ owns (c : Thread nD τ) scS fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (hcTile (qSlot x0) (sSlot x0) x2 x3)
            ∗ owns (c : Thread nD τ) arg6 fullShare (hsUpd (i 0).val (hRow (qSlot x0) (sSlot x0) x2 x3) d6)
            ∗ owns (c : Thread nD τ) arg7 fullShare (k0_pay9 (qSlot x0))
            ∗ owns (c : Thread nD τ) arg8 fullShare (xsUpd (i 0).val (xRow (sSlot x0)) d8)
            ∗ (∃ q', ⌜ldQ' q' i = qSlot x1⌝ ∗ owns (c : Thread nD τ) scQ fullShare q')
            ∗ (∃ s', ⌜ldS' s' i = sSlot x1⌝ ∗ owns (c : Thread nD τ) scS fullShare s')) -∗ K PUnit.unit))
      ⊢ wp frame (wpE (defs₀ (F := F)) Variants.none c none) Set.univ (cc0_geglu_fp8 i arg1 harg1 arg2 harg2 arg3 harg3 arg4 harg4 arg5 harg5 arg6 harg6 arg7 harg7 arg8 harg8 scQ (Memref.isWhole_whole _) scS (Memref.isWhole_whole _)) K := by
  have hc : (Scalar.cmpi .ne (Scalar.extui (Scalar.cmpi .eq (BitVec.ofNat 32 (i 0).val) 0#32)) 0#32 = 1#1) :=
    (first_iff i).mpr hi
  simp only [cc0_geglu_fp8_eq_skeleton]; unfold cc0_geglu_fp8_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%f8, %hf8, H8⟩, ⟨%f9, %hf9, H9⟩, ⟨%f10, %hf10, H10⟩, HK⟩
  subst hf1 hf2 hf3 hf4 hf6 hf8 hf9 hf10
  sl_exec (disch := sl_exact hc)
  sl_step
  have e7 : View.readAt (Elt F) scQ.view (Rect.unit (s := S2x512x3072) (k0_off1 i) S1x512x3072.size (k0_off1_inb i)).toLoadRect (scQ.view.writes (Elt F) f9 (run_first.sl.H9_1 c arg1 f1)) = qSlot (View.read (Elt F) arg1.view f1) := by
    delta run_first.sl.H9_1
    rw [ldQ_first f9 i hi]
    exact congrArg qSlot (View.readAt_full arg1.view f1 inb_S512x3072_S512x3072_0_0)
  have e11 : View.readAt (Elt F) scS.view (Rect.unit (s := S2x512x128) (k0_off2 i) S1x512x128.size (k0_off2_inb i)).toLoadRect (scS.view.writes (Elt F) f10 (run_first.sl.H10_1 c arg1 f1)) = sSlot (View.read (Elt F) arg1.view f1) := by
    delta run_first.sl.H10_1
    rw [ldS_first f10 i hi]
    exact congrArg sSlot (View.readAt_full arg1.view f1 inb_S512x3072_S512x3072_0_0)
  rw [← e7, ← e11]
  iapply HK
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro
    exact read_hcPieces arg5.view f5 (fun g => hCode (half (View.readAt (Elt F) scQ.view (Rect.unit (s := S2x512x3072) (k0_off1 i) S1x512x3072.size (k0_off1_inb i)).toLoadRect (scQ.view.writes (Elt F) f9 (run_first.sl.H9_1 c arg1 f1))) (View.readAt (Elt F) scS.view (Rect.unit (s := S2x512x128) (k0_off2 i) S1x512x128.size (k0_off2_inb i)).toLoadRect (scS.view.writes (Elt F) f10 (run_first.sl.H10_1 c arg1 f1))) (View.read (Elt F) arg3.view f3) (View.read (Elt F) arg4.view f4) 0 g) (half (View.readAt (Elt F) scQ.view (Rect.unit (s := S2x512x3072) (k0_off1 i) S1x512x3072.size (k0_off1_inb i)).toLoadRect (scQ.view.writes (Elt F) f9 (run_first.sl.H9_1 c arg1 f1))) (View.readAt (Elt F) scS.view (Rect.unit (s := S2x512x128) (k0_off2 i) S1x512x128.size (k0_off2_inb i)).toLoadRect (scS.view.writes (Elt F) f10 (run_first.sl.H10_1 c arg1 f1))) (View.read (Elt F) arg3.view f3) (View.read (Elt F) arg4.view f4) 1 g))
  isplitl [H6]
  · iexists _; isplitr
    swap; · iexact H6
    ipureintro
    exact read_hsPieces arg6.view f6 i
      (hRow (View.readAt (Elt F) scQ.view (Rect.unit (s := S2x512x3072) (k0_off1 i) S1x512x3072.size (k0_off1_inb i)).toLoadRect (scQ.view.writes (Elt F) f9 (run_first.sl.H9_1 c arg1 f1))) (View.readAt (Elt F) scS.view (Rect.unit (s := S2x512x128) (k0_off2 i) S1x512x128.size (k0_off2_inb i)).toLoadRect (scS.view.writes (Elt F) f10 (run_first.sl.H10_1 c arg1 f1))) (View.read (Elt F) arg3.view f3) (View.read (Elt F) arg4.view f4))
  isplitl [H7]
  · iexists _; isplitr
    swap; · iexact H7
    ipureintro
    exact read_whole_piece arg7.view f7 _
  isplitl [H8]
  · iexists _; isplitr
    swap; · iexact H8
    ipureintro
    exact read_xsPieces arg8.view f8 i (xRow (View.readAt (Elt F) scS.view (Rect.unit (s := S2x512x128) (k0_off2 i) S1x512x128.size (k0_off2_inb i)).toLoadRect (scS.view.writes (Elt F) f10 (run_first.sl.H10_1 c arg1 f1))))
  isplitl [H9]
  · iexists _; isplitr
    swap
    · iexists _; isplitr
      swap; · iexact H9
      ipureintro; rfl
    ipureintro
    delta run_first.sl.r_5 run_first.sl.r_6
    rw [ldQ'_write, pay21_eq]
    exact congrArg qSlot (View.readAt_full arg2.view f2 inb_S512x3072_S512x3072_0_0)
  · iexists _; isplitr
    swap
    · iexists _; isplitr
      swap; · iexact H10
      ipureintro; rfl
    ipureintro
    delta run_first.sl.r_6
    rw [ldS'_write, pay22_eq]
    exact congrArg sSlot (View.readAt_full arg2.view f2 inb_S512x3072_S512x3072_0_0)

end Cert.Kernel.Hand
end
-- ==== Proof.K.Point.lean ====
module

public import proofs.«01_k».proof.Proof.K.First
public import proofs.«01_k».proof.Proof.Gen.Kernel.Frame
public import proofs.«01_k».proof.Proof.Gen.Kernel.Points
public import Idealize.ShloMosaic.Lib.Pipeline.DatRel
public import Idealize.ShloMosaic.Lib.Pipeline.ArrRel
public import Idealize.ShloMosaic.Lib.Tactic

@[expose] public section

set_option maxRecDepth 16384

/-!
# The launch of the kernel

Between two grid points the scratches carry the quantised tile that the next point works from. The two arrays of scales stay in
their staging buffers over the whole grid, and every point fills its own rows of them.
-/

noncomputable section

namespace Cert.Kernel.Hand

open Cert.Kernel Cert.Kernel.Gen
open Idealize.ShloMosaic Idealize.ShloMosaic.TcCoe Idealize.ShloMosaic.Tactic
open Idealize.ShloMosaic.Pipeline (Dat RDat BodyObligationRel)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A grid point's coordinate is its number. -/
theorem coords_val : ∀ t : Fin cfg0.N, ((grid0.coords t) 0).val = t.val := by
  decide +kernel

/-- Two loads of one box at equal offsets are the same. -/
theorem ld_off {s : Shape} {e : EltTy} {Val : EltTy → Type} (q : s.Idx → Val e) {off off' size : Fin s.rank → Nat}
    (inb : ∀ a, off a + size a ≤ s.size a) (inb' : ∀ a, off' a + size a ≤ s.size a) (h : off = off') :
    (View.ld q (Rect.unit off size inb) : (Rect.unit off size inb).shape.Idx → Val e) = View.ld q (Rect.unit off' size inb') := by
  subst h; rfl

/-- The slot of codes a grid point works from is the one its predecessor filled. -/
theorem off1_succ : ∀ t u : Fin cfg0.N, t.val = u.val + 1 → k0_off1 (grid0.coords t) = k0_off4 (grid0.coords u) := by
  intro t u h
  rw [k0_off1_eq, k0_off4_eq, coords_val, coords_val, h]

/-- The same for the scales. -/
theorem off2_succ : ∀ t u : Fin cfg0.N, t.val = u.val + 1 → k0_off2 (grid0.coords t) = k0_off5 (grid0.coords u) := by
  intro t u h
  rw [k0_off2_eq, k0_off5_eq, coords_val, coords_val, h]

/-- The codes a grid point reads are those its predecessor left. -/
theorem ldQ_succ (q : Vec F S2x512x3072 .fp8e4m3) (t u : Fin cfg0.N) (h : t.val = u.val + 1) :
    ldQ q (grid0.coords t) = ldQ' q (grid0.coords u) :=
  ld_off (Val := Elt F) (s := S2x512x3072) q (k0_off1_inb _) (k0_off4_inb _) (off1_succ t u h)

/-- The scales a grid point reads are those its predecessor left. -/
theorem ldS_succ (s : Vec F S2x512x128 .f32) (t u : Fin cfg0.N) (h : t.val = u.val + 1) :
    ldS s (grid0.coords t) = ldS' s (grid0.coords u) :=
  ld_off (Val := Elt F) (s := S2x512x128) s (k0_off2_inb _) (k0_off5_inb _) (off2_succ t u h)

set_option maxHeartbeats 1000000 in
/-- The body at any grid point, `xt` being the tile it works from: at the first point its own, later the one whose codes and scales
    the slots hold. -/
theorem run_point (c : Dev nD) (i : grid0.Coords)
    (arg1 : Memref sig .tc .vmem S512x3072 .bf16) (harg1 : arg1.IsWhole) (arg2 : Memref sig .tc .vmem S512x3072 .bf16) (harg2 : arg2.IsWhole)
    (arg3 : Memref sig .tc .vmem S3072x3072 .fp8e4m3) (harg3 : arg3.IsWhole) (arg4 : Memref sig .tc .vmem S1x3072 .f32) (harg4 : arg4.IsWhole)
    (arg5 : Memref sig .tc .vmem S512x1536 .fp8e4m3) (harg5 : arg5.IsWhole) (arg6 : Memref sig .tc .vmem S768x128 .f32) (harg6 : arg6.IsWhole)
    (arg7 : Memref sig .tc .vmem S512x3072 .fp8e4m3) (harg7 : arg7.IsWhole) (arg8 : Memref sig .tc .vmem S64x128 .f32) (harg8 : arg8.IsWhole)
    (x0 : Vec F S512x3072 .bf16) (x1 : Vec F S512x3072 .bf16) (x2 : Vec F S3072x3072 .fp8e4m3) (x3 : Vec F S1x3072 .f32)
    (q : Vec F S2x512x3072 .fp8e4m3) (s : Vec F S2x512x128 .f32) (d6 : Vec F S768x128 .f32) (d8 : Vec F S64x128 .f32) (K : PUnit → sProp 𝕄)
    (xt : Vec F S512x3072 .bf16) (h0 : (i 0).val = 0 → x0 = xt) (hq : ¬ (i 0).val = 0 → ldQ q i = qSlot xt) (hs : ¬ (i 0).val = 0 → ldS s i = sSlot xt) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare d6 ∗ (∃ d, owns (c : Thread nD τ) arg7 fullShare d) ∗ owns (c : Thread nD τ) arg8 fullShare d8
        ∗ owns (c : Thread nD τ) scQ fullShare q ∗ owns (c : Thread nD τ) scS fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (hcTile (qSlot xt) (sSlot xt) x2 x3)
            ∗ owns (c : Thread nD τ) arg6 fullShare (hsUpd (i 0).val (hRow (qSlot xt) (sSlot xt) x2 x3) d6)
            ∗ owns (c : Thread nD τ) arg7 fullShare (k0_pay9 (qSlot xt))
            ∗ owns (c : Thread nD τ) arg8 fullShare (xsUpd (i 0).val (xRow (sSlot xt)) d8)
            ∗ (∃ q', ⌜ldQ' q' i = qSlot x1⌝ ∗ owns (c : Thread nD τ) scQ fullShare q')
            ∗ (∃ s', ⌜ldS' s' i = sSlot x1⌝ ∗ owns (c : Thread nD τ) scS fullShare s')) -∗ K PUnit.unit))
      ⊢ wp frame (wpE (defs₀ (F := F)) Variants.none c none) Set.univ (cc0_geglu_fp8 i arg1 harg1 arg2 harg2 arg3 harg3 arg4 harg4 arg5 harg5 arg6 harg6 arg7 harg7 arg8 harg8 scQ (Memref.isWhole_whole _) scS (Memref.isWhole_whole _)) K := by
  by_cases hi : (i 0).val = 0
  · have h := run_first c i hi arg1 harg1 arg2 harg2 arg3 harg3 arg4 harg4 arg5 harg5 arg6 harg6 arg7 harg7 arg8 harg8 x0 x1 x2 x3 q s d6 d8 K
    rw [h0 hi] at h ⊢
    exact h
  · have h := run_later c i hi arg1 harg1 arg2 harg2 arg3 harg3 arg4 harg4 arg5 harg5 arg6 harg6 arg7 harg7 arg8 harg8 x0 x1 x2 x3 q s d6 d8 K
    rw [hq hi, hs hi] at h
    exact h

variable (m : (ℓ : Loc nD τ sig) → Buf (Elt F) ℓ) (ρ : Dev nD → PrngReg)

/-- The tile of activations that grid point `n` works from: the first is window 0's block, the next ones are those the
    predecessors find in window 1. -/
def xT (c : Dev nD) : ℕ → Vec F S512x3072 .bf16
  | 0 => iblk m c 0 t0_0
  | n + 1 => if h : n < cfg0.N then iblk m c 1 ⟨n, h⟩ else iblk m c 0 t0_0

/-- The weights, -/
def xW (c : Dev nD) : Vec F S3072x3072 .fp8e4m3 := iblk m c 2 t0_0
/-- and their scales. -/
def xV (c : Dev nD) : Vec F S1x3072 .f32 := iblk m c 3 t0_0

/-- The hidden codes grid point `n` leaves, -/
def hcOut (c : Dev nD) (n : ℕ) : Vec F S512x1536 .fp8e4m3 := hcTile (qSlot (xT m c n)) (sSlot (xT m c n)) (xW m c) (xV m c)
/-- its rows of hidden scales, -/
def hsOut (c : Dev nD) (n : ℕ) : Fin 12 → Fin 4 → FVec F S1x128 .f32 := hRow (qSlot (xT m c n)) (sSlot (xT m c n)) (xW m c) (xV m c)
/-- its activation codes -/
def xcOut (c : Dev nD) (n : ℕ) : Vec F S512x3072 .fp8e4m3 := k0_pay9 (qSlot (xT m c n))
/-- and its rows of activation scales. -/
def xsOut (c : Dev nD) (n : ℕ) : Fin 4 → FVec F S1x128 .f32 := xRow (sSlot (xT m c n))

/-- The hidden scales are right in the rows of the grid points up to `n`. -/
def hsOK (c : Dev nD) (n : ℕ) (X : Vec F S768x128 .f32) : Prop :=
  ∀ y : S768x128.Idx, hsPoint (y 0).val ≤ n → X y = hsAt (hsOut m c (hsPoint (y 0).val)) y

/-- The activation scales are right in the rows of the grid points up to `n`. -/
def xsOK (c : Dev nD) (n : ℕ) (X : Vec F S64x128 .f32) : Prop :=
  ∀ y : S64x128.Idx, (y 0).val / 4 ≤ n → X y = xsAt (xsOut m c ((y 0).val / 4)) y

/-- One more grid point's rows of hidden scales. -/
theorem hsOK_upd (c : Dev nD) (n : ℕ) (X : Vec F S768x128 .f32) (h : 0 < n → hsOK m c (n - 1) X) :
    hsOK m c n (hsUpd n (hsOut m c n) X) := by
  intro y hy
  unfold hsUpd
  by_cases e : hsPoint (y 0).val = n
  · rw [if_pos e, e]
  · rw [if_neg e]
    exact h (by omega) y (by omega)

/-- One more grid point's rows of activation scales. -/
theorem xsOK_upd (c : Dev nD) (n : ℕ) (X : Vec F S64x128 .f32) (h : 0 < n → xsOK m c (n - 1) X) :
    xsOK m c n (xsUpd n (xsOut m c n) X) := by
  intro y hy
  unfold xsUpd
  by_cases e : (y 0).val / 4 = n
  · rw [if_pos e, e]
  · rw [if_neg e]
    exact h (by omega) y (by omega)

/-- The invariant between grid points: after point `u` the slot it has filled holds the next tile's codes and scales. -/
def Phi (c : Dev nD) : ℕ → sProp 𝕄
  | 0 => iprop((∃ q, owns (c : Thread nD τ) scQ fullShare q) ∗ (∃ s, owns (c : Thread nD τ) scS fullShare s) ∗ ∃ r, prngReg c r)
  | n + 1 => if h : n < cfg0.N then
      iprop((∃ q, ⌜ldQ' q (grid0.coords ⟨n, h⟩) = qSlot (xT m c (n + 1))⌝ ∗ owns (c : Thread nD τ) scQ fullShare q)
        ∗ (∃ s, ⌜ldS' s (grid0.coords ⟨n, h⟩) = sSlot (xT m c (n + 1))⌝ ∗ owns (c : Thread nD τ) scS fullShare s) ∗ ∃ r, prngReg c r)
    else iprop((∃ q, owns (c : Thread nD τ) scQ fullShare q) ∗ (∃ s, owns (c : Thread nD τ) scS fullShare s) ∗ ∃ r, prngReg c r)

/-- The exact part of the proof data on core `c`. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => hcOut m c t.val
    | ⟨5, _⟩ => hsAt (hsOut m c t.val)
    | ⟨6, _⟩ => xcOut m c t.val
    | ⟨7, _⟩ => xsAt (xsOut m c t.val)
  Φ t := Phi m c t.val
  q w := Pipeline.shareOf spec0 w
  owed _ := 0

/-- The windows held to a predicate: the two arrays of scales. -/
def marked : Fin cfg0.W → Bool
  | ⟨5, _⟩ => true
  | ⟨7, _⟩ => true
  | _ => false

/-- What they are held to after point `t`. -/
def Rl (c : Dev nD) : (w : Fin cfg0.W) → Fin cfg0.N → ((cfg0.win w).block.Idx → Elt F (cfg0.win w).elt) → Prop
  | ⟨5, _⟩, t, X => hsOK m c t.val X
  | ⟨7, _⟩, t, X => xsOK m c t.val X
  | _, _, _ => True

theorem A_eq (c : Dev nD) (w : Fin cfg0.W) : (dat m c).A w = V m c (Pipeline.arrRef spec0 w) := by
  dsimp only [dat]
theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) : (dat m c).after 3 t = iblk m c 3 t := by dsimp only [dat]
theorem after0_4 (c : Dev nD) (t : Fin cfg0.N) : (dat m c).after 4 t = hcOut m c t.val := by dsimp only [dat]
theorem after0_6 (c : Dev nD) (t : Fin cfg0.N) : (dat m c).after 6 t = xcOut m c t.val := by dsimp only [dat]

theorem before0_0 (c : Dev nD) (t : Fin cfg0.N) (d) : (dat m c).before 0 t d = iblk m c 0 t :=
  before0_0_of m (dat m c) (A_eq m c 0) (after0_0 m c) t d
theorem before0_1 (c : Dev nD) (t : Fin cfg0.N) (d) : (dat m c).before 1 t d = iblk m c 1 t :=
  before0_1_of m (dat m c) (A_eq m c 1) (after0_1 m c) t d
theorem before0_2 (c : Dev nD) (t : Fin cfg0.N) (d) : (dat m c).before 2 t d = iblk m c 2 t :=
  before0_2_of m (dat m c) (A_eq m c 2) (after0_2 m c) t d
theorem before0_3 (c : Dev nD) (t : Fin cfg0.N) (d) : (dat m c).before 3 t d = iblk m c 3 t :=
  before0_3_of m (dat m c) (A_eq m c 3) (after0_3 m c) t d

/-- The windows of the weights and of their scales stay on one block. -/
theorem iblk2_const (c : Dev nD) (t : Fin cfg0.N) : iblk m c 2 t = xW m c := rfl
theorem iblk3_const (c : Dev nD) (t : Fin cfg0.N) : iblk m c 3 t = xV m c := rfl

/-- What the hidden scales' window holds when point `t` finds it. -/
theorem finds5 (c : Dev nD) (t : Fin cfg0.N) (Y) (h : ((dat m c).toRRel marked (Rl m c)).Finds 5 t Y) (ht : 0 < t.val) :
    hsOK m c (t.val - 1) Y := by
  have hN : t.val < 16 := t.isLt
  have hfe : (cfg0.win 5).fetch t = false := rfl
  rcases (RDat.finds_of_pos _ hfe (by omega) Y).mp h with hf | hl
  · have := (flush0_5 _).mp hf
    simp only at this
    omega
  · exact Dat.toRRel_leaves (dat m c) (w := 5) rfl hl

/-- What the activation scales' window holds when point `t` finds it. -/
theorem finds7 (c : Dev nD) (t : Fin cfg0.N) (Y) (h : ((dat m c).toRRel marked (Rl m c)).Finds 7 t Y) (ht : 0 < t.val) :
    xsOK m c (t.val - 1) Y := by
  have hN : t.val < 16 := t.isLt
  have hfe : (cfg0.win 7).fetch t = false := rfl
  rcases (RDat.finds_of_pos _ hfe (by omega) Y).mp h with hf | hl
  · have := (flush0_7 _).mp hf
    simp only at this
    omega
  · exact Dat.toRRel_leaves (dat m c) (w := 7) rfl hl

end Cert.Kernel.Hand
end
-- ==== Proof.K.Run.lean ====
module

public import proofs.«01_k».proof.Proof.K.Point
public import proofs.«01_k».proof.Proof.Gen.Kernel.Frame
public import proofs.«01_k».proof.Proof.Gen.Kernel.Points
public import Idealize.ShloMosaic.Lib.Pipeline.DatRel
public import Idealize.ShloMosaic.Lib.Pipeline.ArrRel
public import Idealize.ShloMosaic.Lib.Tactic

@[expose] public section

set_option maxRecDepth 16384

/-!
# The run of the whole kernel and its frame
-/

noncomputable section

namespace Cert.Kernel.Hand

open Cert.Kernel Cert.Kernel.Gen
open Idealize.ShloMosaic Idealize.ShloMosaic.TcCoe Idealize.ShloMosaic.Tactic
open Idealize.ShloMosaic.Pipeline (Dat RDat BodyObligationRel)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant after point `n`. -/
theorem Phi_succ (c : Dev nD) (n : ℕ) (h : n < cfg0.N) : Phi m c (n + 1) =
    iprop((∃ q, ⌜ldQ' q (grid0.coords ⟨n, h⟩) = qSlot (xT m c (n + 1))⌝ ∗ owns (c : Thread nD τ) scQ fullShare q)
        ∗ (∃ s, ⌜ldS' s (grid0.coords ⟨n, h⟩) = sSlot (xT m c (n + 1))⌝ ∗ owns (c : Thread nD τ) scS fullShare s) ∗ ∃ r, prngReg c r) :=
  dif_pos h

/-- The invariant past the grid, which no grid point meets. -/
theorem Phi_past (c : Dev nD) (n : ℕ) (h : ¬ n < cfg0.N) : Phi m c (n + 1) =
    iprop((∃ q, owns (c : Thread nD τ) scQ fullShare q) ∗ (∃ s, owns (c : Thread nD τ) scS fullShare s) ∗ ∃ r, prngReg c r) :=
  dif_neg h

/-- A later point's tile is the block its predecessor finds in window 1. -/
theorem xT_succ (c : Dev nD) (t : Fin cfg0.N) : xT m c (t.val + 1) = iblk m c 1 t := dif_pos t.isLt

/-- Before the first grid point the scratches hold anything. -/
theorem Phi_in (c : Dev nD) : (Pipeline.ΦA spec0 c : sProp 𝕄) ⊢ Phi m c 0 := by
  unfold Pipeline.ΦA Phi
  rw [scopedRest0_eq]; simp only [scQ, scS, owns_whole]
  iintro ⟨⟨H1, H2⟩, H3⟩
  isplitl [H1]; · iexact H1
  isplitl [H2]; · iexact H2
  iexact H3

/-- After any grid point the scratches hold something. -/
theorem Phi_out (c : Dev nD) (n : ℕ) : Phi m c n ⊢ (Pipeline.ΦA spec0 c : sProp 𝕄) := by
  unfold Pipeline.ΦA
  rw [scopedRest0_eq]
  cases n with
  | zero =>
    unfold Phi
    simp only [scQ, scS, owns_whole]
    iintro ⟨H1, H2, H3⟩
    isplitl [H1 H2]
    · isplitl [H1]; · iexact H1
      iexact H2
    iexact H3
  | succ n =>
    by_cases h : n < cfg0.N
    · rw [Phi_succ m c n h]
      simp only [scQ, scS, owns_whole]
      iintro ⟨⟨%q, -, H1⟩, ⟨%s, -, H2⟩, H3⟩
      isplitl [H1 H2]
      · isplitl [H1]; · iexists q; iexact H1
        iexists s; iexact H2
      iexact H3
    · rw [Phi_past m c n h]
      simp only [scQ, scS, owns_whole]
      iintro ⟨H1, H2, H3⟩
      isplitl [H1 H2]
      · isplitl [H1]; · iexact H1
        iexact H2
      iexact H3

/-- What a grid point finds in the scratches: at the first anything, later the codes and scales of its tile. -/
theorem Phi_find (c : Dev nD) (t : Fin cfg0.N) : Phi m c t.val ⊢
    (iprop(∃ q s, ⌜¬ ((grid0.coords t) 0).val = 0 → ldQ q (grid0.coords t) = qSlot (xT m c t.val)⌝
      ∗ ⌜¬ ((grid0.coords t) 0).val = 0 → ldS s (grid0.coords t) = sSlot (xT m c t.val)⌝
      ∗ owns (c : Thread nD τ) scQ fullShare q ∗ owns (c : Thread nD τ) scS fullShare s ∗ ∃ r, prngReg c r) : sProp 𝕄) := by
  rcases t with ⟨n, hn⟩
  cases n with
  | zero =>
    unfold Phi
    iintro ⟨⟨%q, H1⟩, ⟨%s, H2⟩, H3⟩
    iexists q, s
    isplitr; · ipureintro; intro h; exact absurd (coords_val _) h
    isplitr; · ipureintro; intro h; exact absurd (coords_val _) h
    isplitl [H1]; · iexact H1
    isplitl [H2]; · iexact H2
    iexact H3
  | succ n =>
    have h : n < cfg0.N := Nat.lt_of_succ_lt hn
    show Phi m c (n + 1) ⊢ _
    rw [Phi_succ m c n h]
    iintro ⟨⟨%q, %hq, H1⟩, ⟨%s, %hs, H2⟩, H3⟩
    iexists q, s
    isplitr; · ipureintro; intro _; exact (ldQ_succ q ⟨n + 1, hn⟩ ⟨n, h⟩ rfl).trans hq
    isplitr; · ipureintro; intro _; exact (ldS_succ s ⟨n + 1, hn⟩ ⟨n, h⟩ rfl).trans hs
    isplitl [H1]; · iexact H1
    isplitl [H2]; · iexact H2
    iexact H3

/-- What a grid point leaves in them. -/
theorem Phi_leave (c : Dev nD) (t : Fin cfg0.N) :
    (iprop((∃ q', ⌜ldQ' q' (grid0.coords t) = qSlot (iblk m c 1 t)⌝ ∗ owns (c : Thread nD τ) scQ fullShare q')
        ∗ (∃ s', ⌜ldS' s' (grid0.coords t) = sSlot (iblk m c 1 t)⌝ ∗ owns (c : Thread nD τ) scS fullShare s') ∗ ∃ r, prngReg c r) : sProp 𝕄)
      ⊢ Phi m c (t.val + 1) := by
  rw [Phi_succ m c t.val t.isLt, xT_succ]

/-- The first grid point's tile is the block of window 0. -/
theorem xT_zero (c : Dev nD) (t : Fin cfg0.N) (h : ((grid0.coords t) 0).val = 0) : iblk m c 0 t = xT m c t.val := by
  rw [coords_val] at h
  have : t = t0_0 := Fin.ext h
  subst this
  rfl

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ Y, ⌜((dat m c).toRRel marked (Rl m c)).Finds 5 t Y⌝ ∗ owns (c : Thread nD τ) (st0_5 t) fullShare Y)
    ∗ (∃ d, owns (c : Thread nD τ) (st0_6 t) fullShare ((dat m c).before 6 t d))
    ∗ (∃ Y, ⌜((dat m c).toRRel marked (Rl m c)).Finds 7 t Y⌝ ∗ owns (c : Thread nD τ) (st0_7 t) fullShare Y))

/-- and what it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ (∃ X, ⌜Rl m c 5 t X⌝ ∗ owns (c : Thread nD τ) (st0_5 t) fullShare X)
    ∗ owns (c : Thread nD τ) (st0_6 t) fullShare ((dat m c).after 6 t)
    ∗ (∃ X, ⌜Rl m c 7 t X⌝ ∗ owns (c : Thread nD τ) (st0_7 t) fullShare X))

set_option maxHeartbeats 2000000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dat m c).Φ t.succ = Phi m c (t.val + 1) from rfl, show (dat m c).Φ t.castSucc = Phi m c t.val from rfl,
    show (dat m c).owesAt () t.succ = (dat m c).owesAt () t.castSucc from rfl,
    after0_0, after0_1, after0_2, after0_3, after0_4, after0_6]
  iintro ⟨HΦ, Ho, ⟨%d0, H0⟩, ⟨%d1, H1⟩, ⟨%d2, H2⟩, ⟨%d3, H3⟩, ⟨%d4, H4⟩, ⟨%d5, %h5, H5⟩, ⟨%d6, H6⟩, ⟨%d7, %h7, H7⟩⟩
  ihave HΦ := (Phi_find m c t) $$ HΦ
  icases HΦ with ⟨%q, %s, %hq, %hs, HQ, HS, HR⟩
  iapply (run_point c (grid0.coords t) _ _ _ _ _ _ _ _ _ _ _ _ _ _ _ _ (iblk m c 0 t) (iblk m c 1 t) (iblk m c 2 t) (iblk m c 3 t)
    q s d5 d7 _ (xT m c t.val) (xT_zero m c t) hq hs)
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  isplitl [H7]; · iexact H7
  isplitl [HQ]; · iexact HQ
  isplitl [HS]; · iexact HS
  iintro ⟨H0, H1, H2, H3, H4, H5, H6, H7, HQ, HS⟩
  isplitl [HQ HS HR]
  · iapply (Phi_leave m c t)
    isplitl [HQ]; · iexact HQ
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr
    swap; · iexact H5
    ipureintro
    rw [coords_val]
    exact hsOK_upd m c t.val d5 (finds5 m c t d5 h5)
  isplitl [H6]; · iexact H6
  · iexists _; isplitr
    swap; · iexact H7
    ipureintro
    rw [coords_val]
    exact xsOK_upd m c t.val d7 (finds7 m c t d7 h7)

/-- The body table's row at a point's staging buffers is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) :
    BodyObligationRel (dat (F := F) m c) (defs₀ (F := F)) Variants.none () Set.univ marked (Rl m c) := fun t => by
  rw [bigSep_W0, bigSep_W0, defs₀_row]
  exact triple_restated (sound_body m c t) rfl .rfl fun _ => .rfl

/-- The relational proof data. -/
def rdat (c : Dev nD) : RDat τ (Elt F) Unit ℕ (UR sig nD τ) ℕ cfg0 c := (dat m c).toRRel marked (Rl m c)

set_option backward.isDefEq.respectTransparency.types false in
set_option maxHeartbeats 800000 in
/-- The run of the kernel. -/
theorem run_main_quiescent : θ_run defs (onTc (τ := τ) (main (F := F))) (s₀ m ρ)
    (fun r => (RDat.FramePost cfg0 (rdat m) (V m)) r ∧ r.2.sem = fun _ => 0) :=
  Pipeline.RDat.θ_run_frame_track_shared (Q' := _) cfgs (0 : Fin 1) launch₀0 defs₀ Variants.none (rdat m) m ρ main
    (fun c => (body_obligation m c).toRRel) (fun _ _ _ => rfl) (fun _ _ => rfl) (V m) (hmain m Variants.none) (A_eq m)
    (Phi_in m) (fun c => Phi_out m c 16)

/-- The kernel leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      (RDat.FramePost.arr_in h.1 c 2 rfl).trans ((A_eq m c 2).trans (V_main_arg1 m c)),
      ((h.1 c).2 main_arg2 (Pipeline.mem_restRefs_of main_arg2 (by decide) (by decide))).trans (V_main_arg2 m c)⟩, h.2⟩) (run_main_quiescent m ρ)

end Cert.Kernel.Hand
end
-- ==== Proof.Field.lean ====
module

public import proofs.«01_k».proof.Proof.Spec
public import Idealize.ShloMosaic.Lib.Pointwise

@[expose] public section

set_option maxRecDepth 16384

/-!
# The kernel's quantiser, one row at a time

The column of exponent fields that the kernel works out for a tile, read at one row of the tile on the extended reals.
-/

noncomputable section

namespace Cert.KernelIdeal.Hand

open Cert.KernelIdeal Cert.KernelIdeal.Gen
open Idealize.ShloMosaic

/-- The bit pattern whose exponent field is `l`. -/
def pat (l : ℕ) : BitVec 32 := IntOp.muli (BitVec.ofNat 32 l) 8388608#32

/-- The field a pattern stands for: from field 253 on, the mask. -/
def patField (p : BitVec 32) : BitVec 32 := Scalar.select (IntOp.cmpi .sge p 2122317824#32) 2139095040#32 p

/-- The greatest field whose power of two is not above a number. -/
def kField (y : EReal) : BitVec 32 :=
  Finset.univ.fold IntOp.maxsi 2147483648#32 fun l : Fin 256 =>
    if Ideal.ofBits .f32 (pat l.val) ≤ y then patField (pat l.val) else 0#32

/-- The field that is used: the one of the number one if the field is zero or the mask. -/
def kGuard (f : BitVec 32) : BitVec 32 :=
  Scalar.select (IntOp.ori (IntOp.cmpi .eq f 0#32) (IntOp.cmpi .eq f 2139095040#32)) 1056964608#32 f

/-- The kernel's scale of a block whose maximum is `448 y`. -/
def kScale (y : EReal) : EReal := Ideal.ofBits .f32 (IntOp.addi (kGuard (kField y)) 8388608#32)

/-- The factor by which the kernel multiplies the numbers of that block. -/
def kInv (y : EReal) : EReal := Ideal.ofBits .f32 (IntOp.subi 2122317824#32 (kGuard (kField y)))

/-- The powers of two as bit patterns. -/
def powPat : IVec S1x256 32 := muli (iota .tc S1x256 32 [1] iota_S1x256_d1_w32) (broadcast S1x256 8388608#32)

/-- The fields of a row of patterns. -/
def powField (p : IVec S1x256 32) : IVec S1x256 32 :=
  select (cmpi .sge p (broadcast S1x256 2122317824#32)) (broadcast S1x256 2139095040#32) p

/-- Each row's fields of the powers that are not above the row's number. -/
def fieldGrid (p : FVec Ideal S1x256 .f32) (f : IVec S1x256 32) (y : FVec Ideal S512x1 .f32) : IVec S512x256 32 :=
  select (cmpf .ole (broadcastTo S512x256 p broadcasts_S1x256_S512x256) (broadcastTo S512x256 y broadcasts_S512x1_S512x256))
    (broadcastTo S512x256 (shapeCast S1x256 f shapeCasts_S1x256_S1x256) broadcasts_S1x256_S512x256) (broadcast S512x256 0#32)

/-- Each row's greatest field. -/
def maxCol (v : IVec S512x256 32) : IVec S512x1 32 :=
  shapeCast S512x1 (multiReductionI .maxsi [1] S512 v 2147483648#32 reduces_S512x256_S512 rfl) shapeCasts_S512_S512x1

/-- The column of fields that are used. -/
def guardCol (f : IVec S512x1 32) : IVec S512x1 32 :=
  select (ori (cmpi .eq f (broadcast S512x1 0#32)) (cmpi .eq f (broadcast S512x1 2139095040#32))) (broadcast S512x1 1056964608#32) f

/-- The column of fields of a column of numbers. -/
def fieldCol (y : FVec Ideal S512x1 .f32) : IVec S512x1 32 :=
  guardCol (maxCol (fieldGrid (bitcastToFloat (F := Ideal) .f32 powPat) (powField powPat) y))

/-- The greatest magnitude of each row of the tile. -/
def xMax (x : FVec Ideal S512x3072 .bf16) : FVec Ideal S512x1 .bf16 :=
  shapeCast S512x1 (multiReduction .maximumf [1] S512 (absf x) 0xFF80#16 reduces_S512x3072_S512 (.inr rfl) rfl) shapeCasts_S512_S512x1

/-- The greatest magnitude of each row of a hidden block. -/
def hMax (h : FVec Ideal S512x128 .f32) : FVec Ideal S512x1 .f32 :=
  shapeCast S512x1 (multiReduction .maximumf [1] S512 (absf h) 0xFF800000#32 reduces_S512x128_S512 (.inl rfl) rfl) shapeCasts_S512_S512x1

/-- A column of maxima over the greatest code. -/
def overMax (m : FVec Ideal S512x1 .f32) : FVec Ideal S512x1 .f32 := mulf m (broadcast S512x1 (Scalar.ofBits .f32 0x3B124925#32))

/-- The tile's fields. -/
theorem pay3_eq (x : Vec Ideal S512x3072 .bf16) :
    k0_pay3 (F := Ideal) x = fieldCol (overMax (extf .f32 (xMax (k0_pay2 x)) bitsLt_bf16_f32)) := rfl

/-- A hidden block's fields. -/
theorem pay30_eq (G U I W : FVec Ideal S512x128 .f32) :
    k0_pay30 (F := Ideal) G U I W = fieldCol (overMax (hMax (k0_pay29 G U I W))) := rfl

/-- One pattern. -/
theorem powPat_apply (k : Fin 256) : powPat (ix2 0 k) = pat k.val := by
  pointwise [powPat, pat]

/-- One field. -/
theorem powField_apply (p : IVec S1x256 32) (k : Fin 256) : powField p (ix2 0 k) = patField (p (ix2 0 k)) := by
  pointwise [powField, patField]

/-- One comparison. -/
theorem fieldGrid_apply (p : FVec Ideal S1x256 .f32) (f : IVec S1x256 32) (y : FVec Ideal S512x1 .f32) (r : Fin 512) (k : Fin 256) :
    fieldGrid p f y (ix2 r k) = if p (ix2 0 k) ≤ y (ix2 r 0) then f (ix2 0 k) else 0#32 := by
  pointwise [fieldGrid]

/-- One row's greatest field. -/
theorem maxCol_apply (v : IVec S512x256 32) (r : Fin 512) :
    maxCol v (ix2 r 0) = Finset.univ.fold IntOp.maxsi 2147483648#32 fun l : Fin 256 => v (ix2 r l) := by
  pointwise [maxCol]

/-- One row's guarded field. -/
theorem guardCol_apply (f : IVec S512x1 32) (r : Fin 512) : guardCol f (ix2 r 0) = kGuard (f (ix2 r 0)) := by
  pointwise [guardCol, kGuard]

/-- A row of patterns read as numbers. -/
theorem patFloat_apply (p : IVec S1x256 32) (k : Fin 256) :
    bitcastToFloat (F := Ideal) .f32 p (ix2 0 k) = Ideal.ofBits .f32 (p (ix2 0 k)) := rfl

/-- One row's field. -/
theorem fieldCol_apply (y : FVec Ideal S512x1 .f32) (r : Fin 512) : fieldCol y (ix2 r 0) = kGuard (kField (y (ix2 r 0))) := by
  unfold fieldCol
  rw [guardCol_apply, maxCol_apply]
  unfold kField
  congr 2
  funext l
  rw [fieldGrid_apply, patFloat_apply, powField_apply, powPat_apply]

/-- One row's maximum. -/
theorem xMax_apply (x : FVec Ideal S512x3072 .bf16) (r : Fin 512) :
    xMax x (ix2 r 0) = Finset.univ.fold max (Ideal.ofBits .bf16 0xFF80#16) fun k : Fin 3072 => FloatOps.absf (x (ix2 r k)) := by
  pointwise [xMax]

/-- One row's maximum in a hidden block. -/
theorem hMax_apply (x : FVec Ideal S512x128 .f32) (r : Fin 512) :
    hMax x (ix2 r 0) = Finset.univ.fold max (Ideal.ofBits .f32 0xFF800000#32) fun k : Fin 128 => FloatOps.absf (x (ix2 r k)) := by
  pointwise [hMax]

/-- One row's maximum over the greatest code. -/
theorem overMax_apply (m : FVec Ideal S512x1 .f32) (r : Fin 512) :
    overMax m (ix2 r 0) = m (ix2 r 0) * Ideal.ofBits .f32 0x3B124925#32 := by
  pointwise [overMax]

/-- The maximum of a row of activations over the greatest code. -/
def xY (x : FVec Ideal S512x3072 .bf16) (r : Fin 512) : EReal :=
  (Finset.univ.fold max (Ideal.ofBits .bf16 0xFF80#16) fun k : Fin 3072 => FloatOps.absf (x (ix2 r k))) * Ideal.ofBits .f32 0x3B124925#32

/-- The maximum of a row of a hidden block over the greatest code. -/
def hY (h : FVec Ideal S512x128 .f32) (r : Fin 512) : EReal :=
  (Finset.univ.fold max (Ideal.ofBits .f32 0xFF800000#32) fun k : Fin 128 => FloatOps.absf (h (ix2 r k))) * Ideal.ofBits .f32 0x3B124925#32

/-- A tile read is the tile. -/
theorem pay2_eq (x : Vec Ideal S512x3072 .bf16) : k0_pay2 (F := Ideal) x = x := shapeCast_id _ _

/-- Widening a column changes nothing. -/
theorem widen_apply (m : FVec Ideal S512x1 .bf16) (r : Fin 512) : extf .f32 m bitsLt_bf16_f32 (ix2 r 0) = m (ix2 r 0) := rfl

/-- The field of a row of activations. -/
theorem pay3_apply (x : Vec Ideal S512x3072 .bf16) (r : Fin 512) : k0_pay3 (F := Ideal) x (ix2 r 0) = kGuard (kField (xY x r)) := by
  rw [pay3_eq, fieldCol_apply, overMax_apply, pay2_eq, widen_apply, xMax_apply]
  unfold xY
  exact rfl

/-- The field of a row of a hidden block. -/
theorem pay30_apply (G U I W : FVec Ideal S512x128 .f32) (r : Fin 512) :
    k0_pay30 (F := Ideal) G U I W (ix2 r 0) = kGuard (kField (hY (k0_pay29 G U I W) r)) := by
  rw [pay30_eq, fieldCol_apply, overMax_apply, hMax_apply]
  rfl

/-- The scale of a row of activations. -/
theorem pay4_apply (x : Vec Ideal S512x3072 .bf16) (r : Fin 512) : k0_pay4 (F := Ideal) x (ix2 r 0) = kScale (xY x r) := by
  unfold kScale
  rw [← pay3_apply]
  pointwise [k0_pay4]

/-- A code of the activations before it is stored. -/
theorem qSlot_apply (x : Vec Ideal S512x3072 .bf16) (r : Fin 512) (k : Fin 3072) :
    qSlot (F := Ideal) x (ix3 0 r k) = min (Ideal.ofBits .bf16 0x43E0#16) (max (Ideal.ofBits .bf16 0xC3E0#16) (x (ix2 r k) * kInv (xY x r))) := by
  unfold kInv
  rw [← pay3_apply]
  pointwise [qSlot, k0_pay7, k0_pay5, k0_pay6, k0_pay2]

/-- A scale of the activations in its scratch: the row's, in every lane. -/
theorem sSlot_apply (x : Vec Ideal S512x3072 .bf16) (r : Fin 512) (l : Fin 128) :
    sSlot (F := Ideal) x (ix3 0 r l) = kScale (xY x r) := by
  rw [← pay4_apply]
  pointwise [sSlot, k0_pay8]

/-- The scratch's codes without the leading coordinate. -/
theorem pay9_apply (v : Vec Ideal S1x512x3072 .fp8e4m3) (r : Fin 512) (k : Fin 3072) : k0_pay9 (F := Ideal) v (ix2 r k) = v (ix3 0 r k) := by
  pointwise [k0_pay9]

/-- The scratch's scales without the leading coordinate. -/
theorem pay10_apply (v : Vec Ideal S1x512x128 .f32) (r : Fin 512) (l : Fin 128) : k0_pay10 (F := Ideal) v (ix2 r l) = v (ix3 0 r l) := by
  pointwise [k0_pay10]

end Cert.KernelIdeal.Hand

end
-- ==== Proof.Scale.lean ====
module

public import proofs.«01_k».proof.Proof.Field
public import Mathlib.Algebra.Order.Archimedean.Basic

@[expose] public section

set_option maxRecDepth 16384

/-!
# The two quantisers find the same scale

The kernel finds the scale as a bit pattern: the greatest power of two that is not above a number, times two. The reference finds it
as an exponent: the least one whose power of two is above the number. Both use the scale one for numbers below the least normal
number and from `2 ^ 126` on.
-/

noncomputable section

namespace Cert.KernelIdeal.Hand

open Idealize.ShloMosaic

/-- The exponents that the reference tries. -/
def rNum (l : ℕ) : EReal := FloatOps.sitofp (F := Ideal) .f32 (IntOp.subi (BitVec.ofNat 32 l) 125#32)

/-- The least exponent whose power of two is above a number. -/
def rMin (y : EReal) : EReal :=
  Finset.univ.fold min (Ideal.ofBits .f32 0x7F800000#32) fun l : Fin 256 =>
    if y < Ideal.exp2 (rNum l.val) then rNum l.val else Ideal.ofBits .f32 0x43000000#32

/-- The reference's exponent of a block whose maximum is `448 y`. -/
def rExp (y : EReal) : EReal :=
  if y < Ideal.ofBits .f32 0x00800000#32 ∨ Ideal.ofBits .f32 0x7E800000#32 ≤ y then 0 else rMin y

/-- The parts of a power's pattern. -/
theorem pat_parts : ∀ l : Fin 256, ((pat l.val).extractLsb' 31 1 == 1#1) = false ∧ ((pat l.val).extractLsb' 23 8).toNat = l.val
    ∧ ((pat l.val).extractLsb' 0 23).toNat = 0 := by decide +kernel

/-- The pattern with field `l` is a power of two. -/
theorem pat_pow (l : ℕ) (h1 : 1 ≤ l) (h2 : l ≤ 254) : Ideal.ofBits .f32 (pat l) = (((2 : ℝ) ^ ((l : ℤ) - 127) : ℝ) : EReal) := by
  obtain ⟨a, b, c⟩ := pat_parts ⟨l, by omega⟩
  simp only at a b c
  show Ideal.ieee 8 23 (pat l) = _
  unfold Ideal.ieee
  simp only [Nat.reduceAdd, a, b, c]
  rw [if_neg (by omega), if_neg (by omega)]
  congr 1
  have : ((2 ^ 23 + 0 : ℕ) : ℝ) = (2 : ℝ) ^ (23 : ℤ) := by norm_num
  rw [this, if_neg (by simp), one_mul, ← zpow_add₀ (by norm_num)]
  congr 1
  norm_num

/-- The pattern with field zero is zero. -/
theorem pat_zero : Ideal.ofBits .f32 (pat 0) = 0 := by
  obtain ⟨a, b, c⟩ := pat_parts ⟨0, by omega⟩
  simp only at a b c
  show Ideal.ieee 8 23 (pat 0) = _
  unfold Ideal.ieee
  simp only [Nat.reduceAdd, a, b, c]
  norm_num

/-- The pattern with field 255 is infinite. -/
theorem pat_top : Ideal.ofBits .f32 (pat 255) = ⊤ := by
  obtain ⟨a, b, c⟩ := pat_parts ⟨255, by omega⟩
  simp only at a b c
  show Ideal.ieee 8 23 (pat 255) = _
  unfold Ideal.ieee
  simp only [Nat.reduceAdd, a, b, c]
  norm_num

/-- The maximum of integers that are at most one of them is that one. -/
theorem fold_maxsi (f : Fin 256 → BitVec 32) (v : BitVec 32) (l₀ : Fin 256) (h₀ : f l₀ = v) (h : ∀ l, (f l).toInt ≤ v.toInt) :
    (Finset.univ.fold IntOp.maxsi 2147483648#32 f) = v := by
  apply BitVec.eq_of_toInt_eq
  have hm : ∀ x y : BitVec 32, (IntOp.maxsi x y).toInt = max x.toInt y.toInt := by
    intro x y
    unfold IntOp.maxsi
    simp only [BitVec.slt, BitVec.sle, decide_eq_true_eq]
    split_ifs <;> omega
  rw [← Finset.fold_hom (op := IntOp.maxsi) (op' := max) (m := BitVec.toInt) hm]
  apply le_antisymm
  · rw [Finset.fold_max_le]
    refine ⟨?_, fun l _ => h l⟩
    have : (2147483648#32 : BitVec 32).toInt = -2147483648 := by decide
    rw [this]
    have := BitVec.le_toInt (x := v)
    norm_num at this
    omega
  · rw [Finset.le_fold_max]
    exact Or.inr ⟨l₀, Finset.mem_univ _, by rw [h₀]⟩

/-- What the kernel's comparisons give for small fields. -/
theorem patField_small : ∀ l : Fin 253, patField (pat l.val) = pat l.val := by decide +kernel
/-- What the kernel's comparisons give for field 253. -/
theorem patField_mask : patField (pat 253) = 2139095040#32 := by decide +kernel
/-- No field is above the mask. -/
theorem patField_le : ∀ l : Fin 256, (patField (pat l.val)).toInt ≤ (2139095040#32 : BitVec 32).toInt := by decide +kernel
/-- A pattern as an integer. -/
theorem pat_toInt : ∀ l : Fin 253, (pat l.val).toInt = 8388608 * (l.val : ℤ) := by decide +kernel
/-- A field that is neither zero nor the mask is used as it is. -/
theorem kGuard_pat : ∀ l : Fin 253, l.val ≠ 0 → kGuard (pat l.val) = pat l.val := by decide +kernel
/-- The scale's pattern. -/
theorem pat_succ : ∀ l : Fin 253, IntOp.addi (pat l.val) 8388608#32 = pat (l.val + 1) := by decide +kernel
/-- The inverse scale's pattern. -/
theorem pat_sub : ∀ l : Fin 253, IntOp.subi 2122317824#32 (pat l.val) = pat (253 - l.val) := by decide +kernel
/-- The guarded field zero. -/
theorem kGuard_zero : kGuard 0#32 = pat 126 := by decide +kernel
/-- The guarded mask. -/
theorem kGuard_mask : kGuard 2139095040#32 = pat 126 := by decide +kernel
/-- Powers of two are ordered by their exponents. -/
theorem two_zpow_le (a b : ℤ) : (2 : ℝ) ^ a ≤ 2 ^ b ↔ a ≤ b := zpow_le_zpow_iff_right₀ (by norm_num)
/-- Powers of two are ordered by their exponents. -/
theorem two_zpow_lt (a b : ℤ) : (2 : ℝ) ^ a < 2 ^ b ↔ a < b := zpow_lt_zpow_iff_right₀ (by norm_num)

/-- The kernel's field of a small number. -/
theorem kField_small (y : EReal) (h : y < (((2 : ℝ) ^ (-126 : ℤ) : ℝ) : EReal)) : kField y = 0#32 := by
  unfold kField
  have key : ∀ l : Fin 256, (if Ideal.ofBits .f32 (pat l.val) ≤ y then patField (pat l.val) else 0#32) = 0#32 := by
    intro l
    rcases Nat.eq_zero_or_pos l.val with h0 | h0
    · rw [h0, show patField (pat 0) = 0#32 by decide +kernel, ite_self]
    · rw [if_neg]
      intro hl
      have hlt := lt_of_le_of_lt hl h
      by_cases h5 : l.val = 255
      · rw [h5, pat_top] at hlt
        exact absurd hlt not_top_lt
      · rw [pat_pow _ h0 (by have := l.isLt; omega), EReal.coe_lt_coe_iff, two_zpow_lt] at hlt
        omega
  exact fold_maxsi _ _ 0 (key 0) fun l => by rw [key l]

/-- The kernel's field of a great number. -/
theorem kField_great (y : EReal) (h : (((2 : ℝ) ^ (126 : ℤ) : ℝ) : EReal) ≤ y) : kField y = 2139095040#32 := by
  unfold kField
  refine fold_maxsi _ _ 253 ?_ fun l => ?_
  · show (if Ideal.ofBits .f32 (pat 253) ≤ y then patField (pat 253) else 0#32) = _
    rw [if_pos, patField_mask]
    rw [pat_pow 253 (by omega) (by omega)]
    exact h
  · split_ifs
    · exact patField_le l
    · decide +kernel

/-- The kernel's field of a number between. -/
theorem kField_mid (r : ℝ) (j : ℕ) (h1 : 1 ≤ j) (h2 : j ≤ 252) (hl : (2 : ℝ) ^ ((j : ℤ) - 127) ≤ r) (hu : r < (2 : ℝ) ^ ((j : ℤ) - 126)) :
    kField (r : EReal) = pat j := by
  unfold kField
  refine fold_maxsi _ _ ⟨j, by omega⟩ ?_ fun l => ?_
  · show (if Ideal.ofBits .f32 (pat j) ≤ (r : EReal) then patField (pat j) else 0#32) = _
    rw [if_pos, patField_small ⟨j, by omega⟩]
    rw [pat_pow j h1 (by omega), EReal.coe_le_coe_iff]
    exact hl
  · have hj : (pat j).toInt = 8388608 * (j : ℤ) := pat_toInt ⟨j, by omega⟩
    split_ifs with hle
    · have hlj : l.val ≤ j := by
        rcases Nat.eq_zero_or_pos l.val with h0 | h0
        · omega
        · by_cases h5 : l.val = 255
          · rw [h5, pat_top] at hle
            exact absurd (top_le_iff.1 hle) (EReal.coe_ne_top r)
          · rw [pat_pow _ h0 (by have := l.isLt; omega), EReal.coe_le_coe_iff] at hle
            have := lt_of_le_of_lt hle hu
            rw [two_zpow_lt] at this
            omega
      rw [patField_small ⟨l.val, by omega⟩, pat_toInt ⟨l.val, by omega⟩, hj]
      simp only
      omega
    · rw [hj]
      simp

/-- An exponent that the reference tries. -/
theorem rNum_eq (l : Fin 256) : rNum l.val = ((((l.val : ℤ) - 125 : ℤ) : ℝ) : EReal) := by
  have h : ∀ l : Fin 256, (IntOp.subi (BitVec.ofNat 32 l.val) 125#32).toInt = (l.val : ℤ) - 125 := by decide +kernel
  unfold rNum
  show (((IntOp.subi (BitVec.ofNat 32 l.val) 125#32).toInt : ℝ) : EReal) = _
  rw [h l]

/-- Two to an integer. -/
theorem exp2_int (n : ℤ) : Ideal.exp2 (((n : ℤ) : ℝ) : EReal) = (((2 : ℝ) ^ n : ℝ) : EReal) := by
  show ((Real.rpow 2 (n : ℝ) : ℝ) : EReal) = _
  congr 1
  exact Real.rpow_intCast 2 n

/-- The least normal number. -/
theorem least_normal : Ideal.ofBits .f32 0x00800000#32 = (((2 : ℝ) ^ (-126 : ℤ) : ℝ) : EReal) := by
  rw [show (0x00800000#32 : BitVec 32) = pat 1 by decide +kernel, pat_pow 1 (by omega) (by omega)]
  norm_num

/-- The number from which on the scale is one. -/
theorem great_number : Ideal.ofBits .f32 0x7E800000#32 = (((2 : ℝ) ^ (126 : ℤ) : ℝ) : EReal) := by
  rw [show (0x7E800000#32 : BitVec 32) = pat 253 by decide +kernel, pat_pow 253 (by omega) (by omega)]
  norm_num

/-- The exponent given to the tries that do not count. -/
theorem no_try : Ideal.ofBits .f32 0x43000000#32 = (((128 : ℤ) : ℝ) : EReal) := by
  rw [show (0x43000000#32 : BitVec 32) = pat 134 by decide +kernel, pat_pow 134 (by omega) (by omega)]
  norm_num

/-- The reference's exponent of a number between. -/
theorem rMin_mid (r : ℝ) (n : ℤ) (h1 : -126 ≤ n) (h2 : n ≤ 125) (hl : (2 : ℝ) ^ n ≤ r) (hu : r < (2 : ℝ) ^ (n + 1)) :
    rMin (r : EReal) = (((n + 1 : ℤ) : ℝ) : EReal) := by
  unfold rMin
  apply le_antisymm
  · rw [Finset.fold_min_le]
    refine Or.inr ⟨⟨(n + 126).toNat, by omega⟩, Finset.mem_univ _, ?_⟩
    have e : (((n + 126).toNat : ℤ) - 125) = n + 1 := by omega
    rw [rNum_eq ⟨(n + 126).toNat, by omega⟩]
    simp only [e]
    rw [exp2_int, if_pos (EReal.coe_lt_coe_iff.2 hu)]
  · rw [Finset.le_fold_min]
    refine ⟨?_, fun l _ => ?_⟩
    · rw [show (0x7F800000#32 : BitVec 32) = pat 255 by decide +kernel, pat_top]
      exact le_top
    · rw [rNum_eq l, exp2_int, no_try]
      split_ifs with h
      · rw [EReal.coe_lt_coe_iff] at h
        have := lt_of_le_of_lt hl h
        rw [two_zpow_lt] at this
        rw [EReal.coe_le_coe_iff, Int.cast_le]
        omega
      · rw [EReal.coe_le_coe_iff, Int.cast_le]
        omega

/-- Every number is small, great or between. -/
theorem split (y : EReal) : y < (((2 : ℝ) ^ (-126 : ℤ) : ℝ) : EReal) ∨ (((2 : ℝ) ^ (126 : ℤ) : ℝ) : EReal) ≤ y ∨
    ∃ (r : ℝ) (n : ℤ), y = (r : EReal) ∧ -126 ≤ n ∧ n ≤ 125 ∧ (2 : ℝ) ^ n ≤ r ∧ r < (2 : ℝ) ^ (n + 1) := by
  by_cases h1 : y < (((2 : ℝ) ^ (-126 : ℤ) : ℝ) : EReal)
  · exact Or.inl h1
  by_cases h2 : (((2 : ℝ) ^ (126 : ℤ) : ℝ) : EReal) ≤ y
  · exact Or.inr (Or.inl h2)
  right; right
  rw [not_lt] at h1
  rw [not_le] at h2
  induction y using EReal.rec with
  | bot => exact absurd (le_bot_iff.1 h1) (EReal.coe_ne_bot _)
  | top => exact absurd h2 not_top_lt
  | coe r =>
    rw [EReal.coe_le_coe_iff] at h1
    rw [EReal.coe_lt_coe_iff] at h2
    have hr : 0 < r := lt_of_lt_of_le (zpow_pos (by norm_num) _) h1
    obtain ⟨n, hn, hn'⟩ := exists_mem_Ico_zpow hr (by norm_num : (1 : ℝ) < 2)
    refine ⟨r, n, rfl, ?_, ?_, hn, hn'⟩
    · have := lt_of_le_of_lt h1 hn'
      rw [two_zpow_lt] at this
      omega
    · have := lt_of_le_of_lt hn h2
      rw [two_zpow_lt] at this
      omega

/-- The scale one. -/
theorem scale_one : Ideal.ofBits .f32 (IntOp.addi (pat 126) 8388608#32) = Ideal.exp2 0
    ∧ Ideal.ofBits .f32 (IntOp.subi 2122317824#32 (pat 126)) = Ideal.exp2 (0 - 0) := by
  have e : Ideal.exp2 0 = 1 := by
    have := exp2_int 0
    simpa using this
  rw [pat_succ ⟨126, by omega⟩, pat_sub ⟨126, by omega⟩, sub_zero, e]
  simp only [Nat.reduceAdd, Nat.reduceSub]
  rw [pat_pow 127 (by omega) (by omega)]
  norm_num

/-- The two quantisers' scales, and the factors by which they multiply. -/
theorem scale_eq (y : EReal) : kScale y = Ideal.exp2 (rExp y) ∧ kInv y = Ideal.exp2 (0 - rExp y) := by
  unfold kScale kInv rExp
  rw [least_normal, great_number]
  rcases split y with h | h | ⟨r, n, rfl, h1, h2, hl, hu⟩
  · rw [kField_small y h, kGuard_zero, if_pos (Or.inl h)]
    exact scale_one
  · rw [kField_great y h, kGuard_mask, if_pos (Or.inr h)]
    exact scale_one
  · obtain ⟨j, hj⟩ : ∃ j : ℕ, (j : ℤ) = n + 127 := ⟨(n + 127).toNat, by omega⟩
    have e1 : (j : ℤ) - 127 = n := by omega
    have e2 : (j : ℤ) - 126 = n + 1 := by omega
    rw [kField_mid r j (by omega) (by omega) (by rw [e1]; exact hl) (by rw [e2]; exact hu), rMin_mid r n h1 h2 hl hu,
      kGuard_pat ⟨j, by omega⟩ (by simp only; omega), pat_succ ⟨j, by omega⟩, pat_sub ⟨j, by omega⟩, if_neg]
    · rw [zero_sub, ← EReal.coe_neg, ← Int.cast_neg, exp2_int, exp2_int, pat_pow _ (by simp) (by simp only; omega),
        pat_pow _ (by simp only; omega) (by simp only; omega)]
      constructor
      · congr 2
        push_cast
        omega
      · congr 2
        simp only
        omega
    · rintro (h | h)
      · rw [EReal.coe_lt_coe_iff] at h
        have := lt_of_le_of_lt hl h
        rw [two_zpow_lt] at this
        omega
      · rw [EReal.coe_le_coe_iff] at h
        have := lt_of_le_of_lt h hu
        rw [two_zpow_lt] at this
        omega

end Cert.KernelIdeal.Hand

end
-- ==== Proof.Target.lean ====
module

public import proofs.«01_k».proof.Proof.Scale

@[expose] public section

set_option maxRecDepth 16384

/-!
# The results as plain functions of the arguments

`X` is the activations, one row per token; `W` the weight codes; `s` the weights' column scales.
-/

noncomputable section

namespace Cert.Target

open Cert.KernelIdeal.Hand (rExp)
open Idealize.ShloMosaic

/-- `1 / 448` as the number format has it. -/
def c448 : EReal := Ideal.ofBits .f32 0x3B124925#32

/-- A number clipped to the codes' range. -/
def clip (a : EReal) : EReal := min (Ideal.ofBits .f32 0x43E00000#32) (max (Ideal.ofBits .f32 0xC3E00000#32) a)

/-- The greatest magnitude of a block over the greatest code. -/
def amax {n : ℕ} (v : Fin n → EReal) : EReal :=
  (Finset.univ.fold max ⊥ fun k => FloatOps.absf (F := Ideal) (φ := .f32) (v k)) * c448

/-- A block's exponent. -/
def ex {n : ℕ} (v : Fin n → EReal) : EReal := rExp (amax v)

/-- A block's scale. -/
def scale {n : ℕ} (v : Fin n → EReal) : EReal := Ideal.exp2 (ex v)

/-- A block's code before it is stored. -/
def code {n : ℕ} (v : Fin n → EReal) (k : Fin n) : EReal := clip (v k * Ideal.exp2 (0 - ex v))

/-- The gated hidden unit of a gate and an up number. -/
def act (g u : EReal) : EReal :=
  g * (Ideal.ofBits .f32 0x3F000000#32 * (1 + Ideal.tanh (Ideal.ofBits .f32 0x3F4C422A#32 *
    (g + Ideal.ofBits .f32 0x3D372713#32 * (g * (g * g)))))) * u

/-- The projection of one token. -/
def proj (x : Fin 3072 → EReal) (W : Fin 3072 → Fin 3072 → EReal) (s : Fin 3072 → EReal) (c : Fin 3072) : EReal :=
  (∑ k, code x k * W k c) * scale x * s c

/-- The hidden unit `128 g + l` of one token. -/
def hid (x : Fin 3072 → EReal) (W : Fin 3072 → Fin 3072 → EReal) (s : Fin 3072 → EReal) (g : Fin 12) (l : Fin 128) : EReal :=
  act (proj x W s ⟨128 * g.val + l.val, by omega⟩) (proj x W s ⟨1536 + (128 * g.val + l.val), by omega⟩)

/-- The hidden codes: token `r`, unit `n`. -/
def HC (X : Fin 8192 → Fin 3072 → EReal) (W : Fin 3072 → Fin 3072 → EReal) (s : Fin 3072 → EReal) (r : Fin 8192) (n : Fin 1536) : EReal :=
  code (hid (X r) W s ⟨n.val / 128, by omega⟩) ⟨n.val % 128, by omega⟩

/-- The hidden scales as they are laid out: row `q` holds block `q / 64` of the 128 tokens of chunk `q / 4 mod 16` of quarter `q mod 4`. -/
def HS (X : Fin 8192 → Fin 3072 → EReal) (W : Fin 3072 → Fin 3072 → EReal) (s : Fin 3072 → EReal) (q : Fin 768) (l : Fin 128) : EReal :=
  scale (hid (X ⟨q.val % 4 * 2048 + q.val / 4 % 16 * 128 + l.val, by omega⟩) W s ⟨q.val / 64, by omega⟩)

/-- The activations' codes. -/
def XC (X : Fin 8192 → Fin 3072 → EReal) (r : Fin 8192) (k : Fin 3072) : EReal := code (X r) k

/-- The activations' scales, 128 tokens to a row. -/
def XS (X : Fin 8192 → Fin 3072 → EReal) (q : Fin 64) (l : Fin 128) : EReal := scale (X ⟨q.val * 128 + l.val, by omega⟩)

/-- The least number of the reference's format. -/
theorem ofBits_bot : Ideal.ofBits .f32 0xFF800000#32 = ⊥ := by
  show Ideal.ieee 8 23 0xFF800000#32 = _
  unfold Ideal.ieee
  rw [if_pos (by decide), if_pos (by decide), if_pos (by decide)]

/-- The least number of the kernel's format. -/
theorem ofBits_bot16 : Ideal.ofBits .bf16 0xFF80#16 = ⊥ := by
  show Ideal.ieee 8 7 0xFF80#16 = _
  unfold Ideal.ieee
  rw [if_pos (by decide), if_pos (by decide), if_pos (by decide)]

/-- The parts of the greatest and the least code's patterns. -/
theorem code_parts : ((0x43E0#16 : BitVec 16).extractLsb' 15 1 == 1#1) = false ∧ ((0x43E0#16 : BitVec 16).extractLsb' 7 8).toNat = 135
    ∧ ((0x43E0#16 : BitVec 16).extractLsb' 0 7).toNat = 96 ∧ ((0xC3E0#16 : BitVec 16).extractLsb' 15 1 == 1#1) = true
    ∧ ((0xC3E0#16 : BitVec 16).extractLsb' 7 8).toNat = 135 ∧ ((0xC3E0#16 : BitVec 16).extractLsb' 0 7).toNat = 96
    ∧ ((0x43E00000#32 : BitVec 32).extractLsb' 31 1 == 1#1) = false ∧ ((0x43E00000#32 : BitVec 32).extractLsb' 23 8).toNat = 135
    ∧ ((0x43E00000#32 : BitVec 32).extractLsb' 0 23).toNat = 6291456 ∧ ((0xC3E00000#32 : BitVec 32).extractLsb' 31 1 == 1#1) = true
    ∧ ((0xC3E00000#32 : BitVec 32).extractLsb' 23 8).toNat = 135 ∧ ((0xC3E00000#32 : BitVec 32).extractLsb' 0 23).toNat = 6291456 := by
  decide +kernel

/-- The greatest code in both formats. -/
theorem ofBits_448 : Ideal.ofBits .bf16 0x43E0#16 = Ideal.ofBits .f32 0x43E00000#32 := by
  obtain ⟨a, b, c, -, -, -, d, e, f, -⟩ := code_parts
  show Ideal.ieee 8 7 0x43E0#16 = Ideal.ieee 8 23 0x43E00000#32
  unfold Ideal.ieee
  simp only [Nat.reduceAdd, a, b, c, d, e, f]
  norm_num

/-- The least code in both formats. -/
theorem ofBits_m448 : Ideal.ofBits .bf16 0xC3E0#16 = Ideal.ofBits .f32 0xC3E00000#32 := by
  obtain ⟨-, -, -, a, b, c, -, -, -, d, e, f⟩ := code_parts
  show Ideal.ieee 8 7 0xC3E0#16 = Ideal.ieee 8 23 0xC3E00000#32
  unfold Ideal.ieee
  simp only [Nat.reduceAdd, a, b, c, d, e, f]
  norm_num

end Cert.Target

end
-- ==== Proof.KerValue.lean ====
module

public import proofs.«01_k».proof.Proof.Target
public import proofs.«01_k».proof.Proof.Spec
public import Idealize.ShloMosaic.Lib.Pipeline.ValueKit

@[expose] public section

set_option maxRecDepth 16384

/-!
# The kernel's tile results, entry by entry
-/

noncomputable section

namespace Cert.KernelIdeal.Hand

open Idealize.ShloMosaic Idealize.ShloMosaic.Pipeline Cert.KernelIdeal Cert.KernelIdeal.Gen
open Cert.Target

variable (x : Vec Ideal S512x3072 .bf16) (w : Vec Ideal S3072x3072 .fp8e4m3) (s : Vec Ideal S1x3072 .f32)

/-- Row `r` of a tile. -/
def row (r : Fin 512) (k : Fin 3072) : EReal := x (ix2 r k)
/-- The weight codes. -/
def wgt (k c : Fin 3072) : EReal := w (ix2 k c)
/-- The weights' scales. -/
def wscale (c : Fin 3072) : EReal := s (ix2 0 c)

/-- A row's maximum over the greatest code. -/
theorem xY_eq (r : Fin 512) : xY x r = amax (row x r) := by
  unfold xY amax c448
  rw [ofBits_bot16]
  rfl

/-- A code of the tile. -/
theorem qSlot_code (r : Fin 512) (k : Fin 3072) : qSlot (F := Ideal) x (ix3 0 r k) = code (row x r) k := by
  rw [qSlot_apply, ofBits_448, ofBits_m448, xY_eq, (scale_eq _).2]
  rfl

/-- A scale of the tile. -/
theorem sSlot_scale (r : Fin 512) (l : Fin 128) : sSlot (F := Ideal) x (ix3 0 r l) = scale (row x r) := by
  rw [sSlot_apply, xY_eq, (scale_eq _).1]
  rfl

/-- The product of the tile's codes with one chunk of weight codes. -/
theorem pay23_apply (a : FVec Ideal S512x3072 .fp8e4m3) (b : Vec Ideal S3072x256 .fp8e4m3) (r : Fin 512) (j : Fin 256) :
    k0_pay23 (F := Ideal) a b (ix2 r j) = ∑ k : Fin 3072, a (ix2 r k) * b (ix2 k j) := by
  pointwise [k0_pay23]

/-- A block of the product, scaled. -/
theorem halfOf_apply (p : FVec Ideal S512x256 .f32) (o : ℕ) (ho : o + 128 ≤ 256) (h : S512x256.Slices ![0, o] S512x128) (v : FVec Ideal S512x128 .f32)
    (q : Vec Ideal S1x128 .f32) (r : Fin 512) (l : Fin 128) :
    mulf (mulf (extractStridedSlice S512x128 ![0, o] p h) v)
      (broadcastTo S512x128 (shapeCast S1x128 q shapeCasts_S1x128_S1x128) broadcasts_S1x128_S512x128) (ix2 r l)
      = p (ix2 r ⟨o + l.val, by omega⟩) * v (ix2 r l) * q (ix2 0 l) := by
  pointwise

/-- A chunk of weight codes. -/
theorem chunk_apply (up : Fin 2) (g : Fin 12) (k : Fin 3072) (j : Fin 256) :
    chunk (F := Ideal) w up g (ix2 k j) = w (ix2 k ⟨1536 * up.val + 256 * (g.val / 2) + j.val, by omega⟩) := by
  unfold chunk
  refine View.ld_unit_apply_of w _ _ _ _ _ fun a => ?_
  match a with
  | ⟨0, _⟩ => exact (Nat.zero_add _).symm
  | ⟨1, _⟩ => rfl

/-- A group's scales. -/
theorem scaleRow_apply (up : Fin 2) (g : Fin 12) (l : Fin 128) :
    scaleRow (F := Ideal) s up g (ix2 0 l) = s (ix2 0 ⟨1536 * up.val + 128 * g.val + l.val, by omega⟩) := by
  unfold scaleRow
  refine View.ld_unit_apply_of s _ _ _ _ _ fun a => ?_
  match a with
  | ⟨0, _⟩ => rfl
  | ⟨1, _⟩ => rfl

/-- A gate or up number of one token. -/
theorem half_apply (up : Fin 2) (g : Fin 12) (r : Fin 512) (l : Fin 128) :
    half (F := Ideal) (qSlot x) (sSlot x) w s up g (ix2 r l)
      = proj (row x r) (wgt w) (wscale s) ⟨1536 * up.val + (128 * g.val + l.val), by omega⟩ := by
  unfold half
  have hg : g.val % 2 < 2 := Nat.mod_lt _ (by decide)
  rw [halfOf_apply _ _ (by omega), pay23_apply, pay10_apply, sSlot_scale, scaleRow_apply]
  unfold proj
  have e1 : (⟨1536 * up.val + 128 * g.val + l.val, by omega⟩ : Fin 3072) = ⟨1536 * up.val + (128 * g.val + l.val), by omega⟩ := Fin.ext (by simp only; omega)
  rw [e1]
  refine congrArg (· * scale (row x r) * wscale s _) (Finset.sum_congr rfl fun k _ => ?_)
  rw [pay9_apply, qSlot_code, chunk_apply]
  have e2 : (⟨1536 * up.val + 256 * (g.val / 2) + (128 * (g.val % 2) + l.val), by omega⟩ : Fin 3072) = ⟨1536 * up.val + (128 * g.val + l.val), by omega⟩ := Fin.ext (by simp only; omega)
  rw [e2]
  rfl

/-- The hidden units of one token from its gate and up blocks. -/
theorem pay29_apply (G U : FVec Ideal S512x128 .f32) (r : Fin 512) (l : Fin 128) :
    k0_pay29 (F := Ideal) G U (inner G) k0_pay28 (ix2 r l) = act (G (ix2 r l)) (U (ix2 r l)) := by
  unfold act
  rw [← mul_assoc (G (ix2 r l)) (G (ix2 r l)) (G (ix2 r l))]
  pointwise [k0_pay29, inner, k0_pay28]

/-- One hidden code. -/
theorem hCode_apply (G U : FVec Ideal S512x128 .f32) (r : Fin 512) (l : Fin 128) :
    hCode (F := Ideal) G U (ix2 r l) = clip (k0_pay29 (F := Ideal) G U (inner G) k0_pay28 (ix2 r l)
      * Ideal.ofBits .f32 (IntOp.subi 2122317824#32 (k0_pay30 (F := Ideal) G U (inner G) k0_pay28 (ix2 r 0)))) := by
  unfold clip
  pointwise [hCode, k0_pay33, k0_pay32]

/-- One hidden scale. -/
theorem hCol_apply (G U : FVec Ideal S512x128 .f32) (r : Fin 512) :
    hCol (F := Ideal) G U (ix2 r 0) = Ideal.ofBits .f32 (IntOp.addi (k0_pay30 (F := Ideal) G U (inner G) k0_pay28 (ix2 r 0)) 8388608#32) := by
  pointwise [hCol, k0_pay31]

/-- The hidden block of one token. -/
abbrev hb (r : Fin 512) (g : Fin 12) : Fin 128 → EReal := hid (row x r) (wgt w) (wscale s) g
/-- The gate block. -/
abbrev gt (g : Fin 12) : FVec Ideal S512x128 .f32 := half (F := Ideal) (qSlot x) (sSlot x) w s 0 g
/-- The up block. -/
abbrev ub (g : Fin 12) : FVec Ideal S512x128 .f32 := half (F := Ideal) (qSlot x) (sSlot x) w s 1 g

/-- One hidden unit. -/
theorem hid_apply (g : Fin 12) (r : Fin 512) (l : Fin 128) :
    k0_pay29 (F := Ideal) (gt x w s g) (ub x w s g) (inner (gt x w s g)) k0_pay28 (ix2 r l) = hb x w s r g l := by
  rw [pay29_apply]
  unfold gt ub hb hid
  rw [half_apply, half_apply]
  congr 2 <;> exact Fin.ext (by simp)

/-- The hidden block's maximum over the greatest code. -/
theorem hY_eq (g : Fin 12) (r : Fin 512) :
    hY (k0_pay29 (F := Ideal) (gt x w s g) (ub x w s g) (inner (gt x w s g)) k0_pay28) r = amax (hb x w s r g) := by
  unfold hY amax c448
  rw [ofBits_bot]
  refine congrArg (fun f : Fin 128 → EReal => Finset.univ.fold max ⊥ f * Ideal.ofBits .f32 0x3B124925#32) (funext fun k => ?_)
  exact congrArg (FloatOps.absf (F := Ideal) (φ := .f32)) (hid_apply x w s g r k)

/-- One hidden code is the plain one. -/
theorem hCode_eq (g : Fin 12) (r : Fin 512) (l : Fin 128) :
    hCode (F := Ideal) (gt x w s g) (ub x w s g) (ix2 r l) = code (hb x w s r g) l := by
  rw [hCode_apply, pay30_apply, hid_apply, hY_eq]
  exact congrArg (fun a => clip (hb x w s r g l * a)) (scale_eq _).2

/-- One hidden scale is the plain one. -/
theorem hCol_eq (g : Fin 12) (r : Fin 512) :
    hCol (F := Ideal) (gt x w s g) (ub x w s g) (ix2 r 0) = scale (hb x w s r g) := by
  rw [hCol_apply, pay30_apply, hY_eq]
  exact (scale_eq _).1

/-- The diagonal of a square laid along the lanes: the sum over the rows of the entries on it. -/
def diag (p : FVec Ideal S128x128 .f32) : FVec Ideal S1x128 .f32 :=
  shapeCast S1x128 (multiReduction .add [0] S128 (select (cmpi .eq (iota .tc S128x128 32 [0] iota_S128x128_d0_w32) (iota .tc S128x128 32 [1] iota_S128x128_d1_w32))
    p (broadcast S128x128 (Scalar.ofBits (F := Ideal) .f32 0x00000000#32))) 0x00000000#32 reduces_S128x128_S128 (.inl rfl) rfl) shapeCasts_S128_S1x128

/-- The diagonal as a sum. -/
theorem diag_sum (p : FVec Ideal S128x128 .f32) (l : Fin 128) :
    diag p (ix2 0 l) = ∑ k : Fin 128, Scalar.select (IntOp.cmpi .eq (BitVec.ofNat 32 k.val) (BitVec.ofNat 32 l.val)) (p (ix2 k l)) 0 := by
  pointwise [diag]

/-- Two lane numbers are one iff their patterns are. -/
theorem lane_eq (k l : Fin 128) : IntOp.cmpi .eq (BitVec.ofNat 32 k.val) (BitVec.ofNat 32 l.val) = if k = l then 1#1 else 0#1 := by
  revert k l; decide +kernel

/-- The diagonal, entry by entry. -/
theorem diag_apply (p : FVec Ideal S128x128 .f32) (l : Fin 128) : diag p (ix2 0 l) = p (ix2 l l) := by
  rw [diag_sum]
  refine (Finset.sum_eq_single l (fun k _ hk => ?_) (fun h => absurd (Finset.mem_univ l) h)).trans ?_
  · rw [lane_eq, if_neg hk]; rfl
  · rw [lane_eq, if_pos rfl]; rfl

/-- A square of a tile. -/
theorem square_apply (v : FVec Ideal S512x128 .f32) (o : ℕ) (ho : o + 128 ≤ 512) (h : S512x128.Slices ![o, 0] S128x128) (r l : Fin 128) :
    extractStridedSlice S128x128 ![o, 0] v h (ix2 r l) = v (ix2 ⟨o + r.val, by omega⟩ l) := by
  pointwise

/-- A column repeated over the lanes. -/
theorem pay34_apply (C : FVec Ideal S512x1 .f32) (r : Fin 512) (l : Fin 128) : k0_pay34 (F := Ideal) C (ix2 r l) = C (ix2 r 0) := by
  pointwise [k0_pay34]

/-- The diagonal of a square of a repeated column. -/
theorem diagCol_apply (C : FVec Ideal S512x1 .f32) (o : ℕ) (ho : o + 128 ≤ 512) (h : S512x128.Slices ![o, 0] S128x128) (l : Fin 128)
    (r : Fin 512) (hr : r.val = o + l.val) : diag (extractStridedSlice S128x128 ![o, 0] (k0_pay34 (F := Ideal) C) h) (ix2 0 l) = C (ix2 r 0) := by
  rw [diag_apply, square_apply _ o ho, pay34_apply]
  have e : (⟨o + l.val, by omega⟩ : Fin 512) = r := Fin.ext hr.symm
  rw [e]

/-- The diagonal of a square of a tile's scales. -/
theorem diagTile_apply (v : Vec Ideal S1x512x128 .f32) (o : ℕ) (ho : o + 128 ≤ 512) (h : S512x128.Slices ![o, 0] S128x128) (l : Fin 128)
    (r : Fin 512) (hr : r.val = o + l.val) : diag (extractStridedSlice S128x128 ![o, 0] (k0_pay10 (F := Ideal) v) h) (ix2 0 l) = v (ix3 0 r l) := by
  rw [diag_apply, square_apply _ o ho, pay10_apply]
  have e : (⟨o + l.val, by omega⟩ : Fin 512) = r := Fin.ext hr.symm
  rw [e]

/-- The scales of one sub-tile as a diagonal. -/
theorem pay35_eq (C : FVec Ideal S512x1 .f32) :
    k0_pay35 (F := Ideal) C = diag (extractStridedSlice S128x128 ![0, 0] (k0_pay34 C) slices_S512x128_o0_0_S128x128) := rfl
/-- The scales of one sub-tile as a diagonal. -/
theorem pay36_eq (C : FVec Ideal S512x1 .f32) :
    k0_pay36 (F := Ideal) C = diag (extractStridedSlice S128x128 ![128, 0] (k0_pay34 C) slices_S512x128_o128_0_S128x128) := rfl
/-- The scales of one sub-tile as a diagonal. -/
theorem pay11_eq (v : Vec Ideal S1x512x128 .f32) :
    k0_pay11 (F := Ideal) v = diag (extractStridedSlice S128x128 ![0, 0] (k0_pay10 v) slices_S512x128_o0_0_S128x128) := rfl
/-- The scales of one sub-tile as a diagonal. -/
theorem pay12_eq (v : Vec Ideal S1x512x128 .f32) :
    k0_pay12 (F := Ideal) v = diag (extractStridedSlice S128x128 ![128, 0] (k0_pay10 v) slices_S512x128_o128_0_S128x128) := rfl
/-- The scales of one sub-tile as a diagonal. -/
theorem pay37_eq (v : FVec Ideal S512x128 .f32) :
    k0_pay37 (F := Ideal) v = diag (extractStridedSlice S128x128 ![256, 0] v slices_S512x128_o256_0_S128x128) := rfl
/-- The scales of one sub-tile as a diagonal. -/
theorem pay38_eq (v : FVec Ideal S512x128 .f32) :
    k0_pay38 (F := Ideal) v = diag (extractStridedSlice S128x128 ![384, 0] v slices_S512x128_o384_0_S128x128) := rfl
/-- The scales of one sub-tile as a diagonal. -/
theorem pay13_eq (v : FVec Ideal S512x128 .f32) :
    k0_pay13 (F := Ideal) v = diag (extractStridedSlice S128x128 ![256, 0] v slices_S512x128_o256_0_S128x128) := rfl
/-- The scales of one sub-tile as a diagonal. -/
theorem pay14_eq (v : FVec Ideal S512x128 .f32) :
    k0_pay14 (F := Ideal) v = diag (extractStridedSlice S128x128 ![384, 0] v slices_S512x128_o384_0_S128x128) := rfl

/-- The scales of a sub-tile laid along the lanes. -/
theorem diagRow_apply (C : FVec Ideal S512x1 .f32) (k : Fin 4) (l : Fin 128) (r : Fin 512) (hr : r.val = 128 * k.val + l.val) :
    diagRow (F := Ideal) C k (ix2 0 l) = C (ix2 r 0) := by
  match k, hr with
  | ⟨0, _⟩, hr =>
    show k0_pay35 (F := Ideal) C (ix2 0 l) = _
    rw [pay35_eq]; exact diagCol_apply C 0 (by omega) _ l r hr
  | ⟨1, _⟩, hr =>
    show k0_pay36 (F := Ideal) C (ix2 0 l) = _
    rw [pay36_eq]; exact diagCol_apply C 128 (by omega) _ l r hr
  | ⟨2, _⟩, hr =>
    show k0_pay37 (F := Ideal) (k0_pay34 C) (ix2 0 l) = _
    rw [pay37_eq]; exact diagCol_apply C 256 (by omega) _ l r hr
  | ⟨3, _⟩, hr =>
    show k0_pay38 (F := Ideal) (k0_pay34 C) (ix2 0 l) = _
    rw [pay38_eq]; exact diagCol_apply C 384 (by omega) _ l r hr

/-- The activations' scales of a sub-tile laid along the lanes. -/
theorem xRow_apply (v : Vec Ideal S1x512x128 .f32) (k : Fin 4) (l : Fin 128) (r : Fin 512) (hr : r.val = 128 * k.val + l.val) :
    xRow (F := Ideal) v k (ix2 0 l) = v (ix3 0 r l) := by
  match k, hr with
  | ⟨0, _⟩, hr =>
    show k0_pay11 (F := Ideal) v (ix2 0 l) = _
    rw [pay11_eq]; exact diagTile_apply v 0 (by omega) _ l r hr
  | ⟨1, _⟩, hr =>
    show k0_pay12 (F := Ideal) v (ix2 0 l) = _
    rw [pay12_eq]; exact diagTile_apply v 128 (by omega) _ l r hr
  | ⟨2, _⟩, hr =>
    show k0_pay13 (F := Ideal) (k0_pay10 v) (ix2 0 l) = _
    rw [pay13_eq]; exact diagTile_apply v 256 (by omega) _ l r hr
  | ⟨3, _⟩, hr =>
    show k0_pay14 (F := Ideal) (k0_pay10 v) (ix2 0 l) = _
    rw [pay14_eq]; exact diagTile_apply v 384 (by omega) _ l r hr

/-- The tile's hidden codes. -/
theorem hcTile_apply (r : Fin 512) (n : Fin 1536) :
    hcTile (F := Ideal) (qSlot x) (sSlot x) w s (ix2 r n) = code (hb x w s r ⟨n.val / 128, by omega⟩) ⟨n.val % 128, by omega⟩ :=
  hCode_eq x w s ⟨n.val / 128, by omega⟩ r ⟨n.val % 128, by omega⟩

/-- The tile's hidden scales. -/
theorem hRow_apply (g : Fin 12) (k : Fin 4) (l : Fin 128) (r : Fin 512) (hr : r.val = 128 * k.val + l.val) :
    hRow (F := Ideal) (qSlot x) (sSlot x) w s g k (ix2 0 l) = scale (hb x w s r g) := by
  unfold hRow
  rw [diagRow_apply _ k l r hr]
  exact hCol_eq x w s g r

/-- The tile's codes. -/
theorem xcTile_apply (r : Fin 512) (k : Fin 3072) : k0_pay9 (F := Ideal) (qSlot x) (ix2 r k) = code (row x r) k := by
  rw [pay9_apply, qSlot_code]

/-- The tile's scales. -/
theorem xRow_scale (k : Fin 4) (l : Fin 128) (r : Fin 512) (hr : r.val = 128 * k.val + l.val) :
    xRow (F := Ideal) (sSlot x) k (ix2 0 l) = scale (row x r) := by
  rw [xRow_apply _ k l r hr, sSlot_scale]

end Cert.KernelIdeal.Hand

end
-- ==== Proof.KerOut.lean ====
module

public import proofs.«01_k».proof.Proof.KerValue
public import proofs.«01_k».proof.Proof.Run
public import Idealize.ShloMosaic.Lib.Pipeline.Value
public import Idealize.ShloMosaic.Lib.Pipeline.ValueKit

@[expose] public section

set_option maxRecDepth 16384

/-!
# The kernel's results after its run
-/

noncomputable section

namespace Cert.KernelIdeal.Hand

open Cert.KernelIdeal Cert.KernelIdeal.Gen
open Idealize.ShloMosaic Idealize.ShloMosaic.TcCoe Idealize.SL.Sem
open Idealize.ShloMosaic.Pipeline (Dat RDat)
open Cert.Target

variable (m : (ℓ : Loc nD τ sig) → Buf (Elt Ideal) ℓ) (ρ : Dev nD → PrngReg)

/-- The activations as the kernel finds them: one row per token. -/
def argX (c : Dev nD) : Vec Ideal S8192x3072 .bf16 :=
  shapeCast S8192x3072 (m ((c : Thread nD τ).loc main_arg0) : Vec Ideal S4x2048x3072 .bf16) shapeCasts_S4x2048x3072_S8192x3072
/-- The weight codes. -/
def argW (c : Dev nD) : Vec Ideal S3072x3072 .fp8e4m3 := m ((c : Thread nD τ).loc main_arg1)
/-- The weights' scales as the kernel finds them: one row. -/
def argS (c : Dev nD) : Vec Ideal S1x3072 .f32 :=
  shapeCast S1x3072 (m ((c : Thread nD τ).loc main_arg2) : Vec Ideal S3072 .f32) shapeCasts_S3072_S1x3072

/-- The activations' table is the argument's numbers in order. -/
theorem V_v0 (c : Dev nD) : V m c main_v0 = argX m c := rfl
/-- The scales' row is the argument's numbers in order. -/
theorem V_v1 (c : Dev nD) : V m c main_v1 = argS m c := rfl

/-- Where the windows' blocks lie. -/
theorem idx0 : ∀ t a, win0_0.index t a = 0 := by decide +kernel
theorem idx1_0 : ∀ t : Fin cfg0.N, win0_1.index t 0 = min (t.val + 1) 15 :=
  (by decide +kernel : ∀ t : Fin grid0.N, win0_1.index t 0 = min (t.val + 1) 15)
theorem idx1_1 : ∀ t : Fin cfg0.N, win0_1.index t 1 = 0 :=
  (by decide +kernel : ∀ t : Fin grid0.N, win0_1.index t 1 = 0)
theorem idx2 : ∀ t a, win0_2.index t a = 0 := by decide +kernel
theorem idx3 : ∀ t a, win0_3.index t a = 0 := by decide +kernel
theorem idx4_0 : ∀ t : Fin cfg0.N, win0_4.index t 0 = t.val :=
  (by decide +kernel : ∀ t : Fin grid0.N, win0_4.index t 0 = t.val)
theorem idx4_1 : ∀ t : Fin cfg0.N, win0_4.index t 1 = 0 :=
  (by decide +kernel : ∀ t : Fin grid0.N, win0_4.index t 1 = 0)
theorem idx6_0 : ∀ t : Fin cfg0.N, win0_6.index t 0 = t.val :=
  (by decide +kernel : ∀ t : Fin grid0.N, win0_6.index t 0 = t.val)
theorem idx6_1 : ∀ t : Fin cfg0.N, win0_6.index t 1 = 0 :=
  (by decide +kernel : ∀ t : Fin grid0.N, win0_6.index t 1 = 0)

/-- The weights' window holds the whole table of weight codes, -/
theorem xW_eq (c : Dev nD) : xW m c = argW m c := by
  refine Eq.trans ?_ (V_main_arg1 m c)
  unfold xW
  funext y
  blk_simp [iblk]
  congr 1
  blk_ext [idx2]
/-- and the scales' window the whole row of scales. -/
theorem xV_eq (c : Dev nD) : xV m c = argS m c := by
  rw [← V_v1]
  unfold xV
  funext y
  blk_simp [iblk]
  congr 1
  blk_ext [idx3]

/-- The first window holds the first tile. -/
theorem iblk0_apply (c : Dev nD) (t : Fin cfg0.N) (r : Fin 512) (k : Fin 3072) :
    (iblk m c 0 t : Vec Ideal S512x3072 .bf16) (ix2 r k) = argX m c (ix2 ⟨r.val, by omega⟩ k) := by
  rw [← V_v0]
  blk_simp [iblk]
  congr 1
  blk_ext [idx0]

/-- The second window holds the next tile. -/
theorem iblk1_apply (c : Dev nD) (t : Fin cfg0.N) (r : Fin 512) (k : Fin 3072) :
    (iblk m c 1 t : Vec Ideal S512x3072 .bf16) (ix2 r k) = argX m c (ix2 ⟨min (t.val + 1) 15 * 512 + r.val, by omega⟩ k) := by
  rw [← V_v0]
  blk_simp [iblk]
  congr 1
  blk_ext [idx1_0, idx1_1]

/-- Tile `n` holds the tokens from `512 n` on. -/
theorem xT_apply (c : Dev nD) (n : ℕ) (hn : n < 16) (r : Fin 512) (k : Fin 3072) :
    xT m c n (ix2 r k) = argX m c (ix2 ⟨n * 512 + r.val, by omega⟩ k) := by
  cases n with
  | zero =>
    have e : (⟨0 * 512 + r.val, by omega⟩ : Fin 8192) = ⟨r.val, by omega⟩ := Fin.ext (by simp)
    rw [e]
    exact iblk0_apply m c t0_0 r k
  | succ n =>
    have h : n < cfg0.N := Nat.lt_of_succ_lt hn
    have e : (⟨(n + 1) * 512 + r.val, by omega⟩ : Fin 8192) = ⟨min (n + 1) 15 * 512 + r.val, by omega⟩ := by
      have : min (n + 1) 15 = n + 1 := by omega
      exact Fin.ext (by simp only [this])
    rw [e]
    have : xT m c (n + 1) = iblk m c 1 ⟨n, h⟩ := dif_pos h
    rw [this]
    exact iblk1_apply m c ⟨n, h⟩ r k

/-- The activations, token by token. -/
abbrev X (c : Dev nD) : Fin 8192 → Fin 3072 → EReal := fun r k => argX m c (ix2 r k)

/-- A tile's row is its token's. -/
theorem row_xT (c : Dev nD) (n : ℕ) (hn : n < 16) (r : Fin 512) : row (xT m c n) r = X m c ⟨n * 512 + r.val, by omega⟩ :=
  funext fun k => xT_apply m c n hn r k

/-- The hidden codes point `n` leaves. -/
theorem hcOut_apply (c : Dev nD) (n : ℕ) (hn : n < 16) (y : S512x1536.Idx) (i : S8192x1536.Idx)
    (h0 : (i 0).val = n * 512 + (y 0).val) (h1 : (i 1).val = (y 1).val) :
    hcOut m c n y = HC (X m c) (wgt (argW m c)) (wscale (argS m c)) (i 0) (i 1) := by
  have h := hcTile_apply (xT m c n) (argW m c) (argS m c) (y 0) (y 1)
  rw [← eq_ix2 y] at h
  unfold hcOut
  rw [xW_eq, xV_eq, h]
  unfold hb
  rw [row_xT m c n hn (y 0)]
  have e0 : (⟨n * 512 + (y 0).val, by have := (y 0).isLt; have : (y 0).val < 512 := this; omega⟩ : Fin 8192) = i 0 := Fin.ext h0.symm
  have e1 : y 1 = i 1 := Fin.ext h1.symm
  rw [e0, e1]
  rfl

/-- The codes point `n` leaves. -/
theorem xcOut_apply (c : Dev nD) (n : ℕ) (hn : n < 16) (y : S512x3072.Idx) (i : S8192x3072.Idx)
    (h0 : (i 0).val = n * 512 + (y 0).val) (h1 : (i 1).val = (y 1).val) :
    xcOut m c n y = XC (X m c) (i 0) (i 1) := by
  have h := xcTile_apply (xT m c n) (y 0) (y 1)
  rw [← eq_ix2 y] at h
  unfold xcOut
  rw [h, row_xT m c n hn (y 0)]
  have e0 : (⟨n * 512 + (y 0).val, by have := (y 0).isLt; have : (y 0).val < 512 := this; omega⟩ : Fin 8192) = i 0 := Fin.ext h0.symm
  have e1 : y 1 = i 1 := Fin.ext h1.symm
  rw [e0, e1]
  rfl

/-- The hidden scales once all points' rows are right. -/
theorem hsOK_last (c : Dev nD) (A : Vec Ideal S768x128 .f32) (h : hsOK m c 15 A) (y : S768x128.Idx) :
    A y = HS (X m c) (wgt (argW m c)) (wscale (argS m c)) (y 0) (y 1) := by
  have hq : (y 0).val < 768 := (y 0).isLt
  have hl : (y 1).val < 128 := (y 1).isLt
  have hp : hsPoint (y 0).val < 16 := by unfold hsPoint; omega
  rw [h y (by omega)]
  unfold hsAt hsOut
  rw [xW_eq, xV_eq]
  refine (hRow_apply (xT m c (hsPoint (y 0).val)) (argW m c) (argS m c) _ _ (y 1)
    ⟨128 * ((y 0).val % 64 / 4 % 4) + (y 1).val, by omega⟩ rfl).trans ?_
  unfold hb HS
  rw [row_xT m c _ hp]
  refine congrArg (fun r => scale (hid (X m c r) (wgt (argW m c)) (wscale (argS m c)) ⟨(y 0).val / 64, by omega⟩)) (Fin.ext ?_)
  show hsPoint (y 0).val * 512 + (128 * ((y 0).val % 64 / 4 % 4) + (y 1).val) = (y 0).val % 4 * 2048 + (y 0).val / 4 % 16 * 128 + (y 1).val
  unfold hsPoint
  omega

/-- The activations' scales once all points' rows are right. -/
theorem xsOK_last (c : Dev nD) (A : Vec Ideal S64x128 .f32) (h : xsOK m c 15 A) (y : S64x128.Idx) :
    A y = XS (X m c) (y 0) (y 1) := by
  have hq : (y 0).val < 64 := (y 0).isLt
  have hl : (y 1).val < 128 := (y 1).isLt
  rw [h y (by omega)]
  unfold xsAt xsOut
  refine (xRow_scale (xT m c ((y 0).val / 4)) _ (y 1) ⟨128 * ((y 0).val % 4) + (y 1).val, by omega⟩ rfl).trans ?_
  unfold XS
  rw [row_xT m c _ (by omega)]
  refine congrArg (fun r => scale (X m c r)) (Fin.ext ?_)
  show (y 0).val / 4 * 512 + (128 * ((y 0).val % 4) + (y 1).val) = (y 0).val * 128 + (y 1).val
  omega

end Cert.KernelIdeal.Hand

end
-- ==== Proof.KerRun.lean ====
module

public import proofs.«01_k».proof.Proof.KerOut

@[expose] public section

set_option maxRecDepth 16384

/-!
# The kernel's run leaves the plain functions of its arguments
-/

noncomputable section

namespace Cert.KernelIdeal.Hand

open Cert.KernelIdeal Cert.KernelIdeal.Gen
open Idealize.ShloMosaic Idealize.ShloMosaic.TcCoe Idealize.SL.Sem
open Idealize.ShloMosaic.Pipeline (Dat RDat)
open Cert.Target

variable (m : (ℓ : Loc nD τ sig) → Buf (Elt Ideal) ℓ) (ρ : Dev nD → PrngReg)

/-- The last point. -/
def pLast : Fin cfg0.N := ⟨15, by decide⟩

/-- What a point may leave in the hidden codes' window. -/
theorem leaves4 (c : Dev nD) (t : Fin cfg0.N) {A} (h : (rdat m c).Leaves 4 t A) : A = hcOut m c t.val := by
  obtain ⟨Y, -, h⟩ := h
  unfold rdat at h
  rw [Dat.toRRel_after_of_eq_false (dat m c) (w := 4) rfl] at h
  have h' : A = (dat m c).after 4 t := h
  rw [h', after0_4]

/-- What a point may leave in the codes' window. -/
theorem leaves6 (c : Dev nD) (t : Fin cfg0.N) {A} (h : (rdat m c).Leaves 6 t A) : A = xcOut m c t.val := by
  obtain ⟨Y, -, h⟩ := h
  unfold rdat at h
  rw [Dat.toRRel_after_of_eq_false (dat m c) (w := 6) rfl] at h
  have h' : A = (dat m c).after 6 t := h
  rw [h', after0_6]

/-- What a point may leave in the hidden scales' window. -/
theorem leaves5 (c : Dev nD) (t : Fin cfg0.N) {A} (h : (rdat m c).Leaves 5 t A) : hsOK m c t.val A :=
  Dat.toRRel_leaves (dat m c) (w := 5) rfl h

/-- What a point may leave in the scales' window. -/
theorem leaves7 (c : Dev nD) (t : Fin cfg0.N) {A} (h : (rdat m c).Leaves 7 t A) : xsOK m c t.val A :=
  Dat.toRRel_leaves (dat m c) (w := 7) rfl h

/-- The hidden codes' table at the end. -/
theorem out4 (c : Dev nD) (D : Dat τ (Elt Ideal) Unit ℕ (UR sig nD τ) ℕ cfg0 c) (h : ∀ t, D.after 4 t = hcOut m c t.val) :
    D.arrAt 4 cfg0.N = (fun y => HC (X m c) (wgt (argW m c)) (wscale (argS m c)) (y 0) (y 1) : S8192x1536.Idx → EReal) := by
  refine D.arrAt_eq_of_covers 4 _ (by decide +kernel) fun t _ y => ?_
  rw [h t]
  blk_simp
  refine hcOut_apply m c t.val t.isLt _ _ ?_ ?_
  · blk_simp [idx4_0]
  · blk_simp [idx4_1]

/-- The codes' table at the end. -/
theorem out6 (c : Dev nD) (D : Dat τ (Elt Ideal) Unit ℕ (UR sig nD τ) ℕ cfg0 c) (h : ∀ t, D.after 6 t = xcOut m c t.val) :
    D.arrAt 6 cfg0.N = (fun y => XC (X m c) (y 0) (y 1) : S8192x3072.Idx → EReal) := by
  refine D.arrAt_eq_of_covers 6 _ (by decide +kernel) fun t _ y => ?_
  rw [h t]
  blk_simp
  refine xcOut_apply m c t.val t.isLt _ _ ?_ ?_
  · blk_simp [idx6_0]
  · blk_simp [idx6_1]

/-- The hidden scales' table at the end. -/
theorem out5 (c : Dev nD) (D : Dat τ (Elt Ideal) Unit ℕ (UR sig nD τ) ℕ cfg0 c) (h : hsOK m c 15 (D.after 5 pLast)) :
    D.arrAt 5 cfg0.N = (fun y => HS (X m c) (wgt (argW m c)) (wscale (argS m c)) (y 0) (y 1) : S768x128.Idx → EReal) := by
  refine D.arrAt_eq_of_after_last 5 pLast (by decide +kernel) _ fun j => ?_
  blk_simp
  exact hsOK_last m c _ h j

/-- The scales' table at the end. -/
theorem out7 (c : Dev nD) (D : Dat τ (Elt Ideal) Unit ℕ (UR sig nD τ) ℕ cfg0 c) (h : xsOK m c 15 (D.after 7 pLast)) :
    D.arrAt 7 cfg0.N = (fun y => XS (X m c) (y 0) (y 1) : S64x128.Idx → EReal) := by
  refine D.arrAt_eq_of_after_last 7 pLast (by decide +kernel) _ fun j => ?_
  blk_simp
  exact xsOK_last m c _ h j

/-- The kernel's run: its results, its arguments unchanged. -/
theorem run : θ_run defs (onTc (τ := τ) (main (F := Ideal))) ⟨m, fun _ => 0, ρ⟩ fun r => ∀ c : Dev nD,
      r.2.mem ((c.tc : Thread nD τ).loc main_v2_0) = (fun y => HC (X m c) (wgt (argW m c)) (wscale (argS m c)) (y 0) (y 1) : S8192x1536.Idx → EReal)
      ∧ r.2.mem ((c.tc : Thread nD τ).loc main_v2_1) = (fun y => HS (X m c) (wgt (argW m c)) (wscale (argS m c)) (y 0) (y 1) : S768x128.Idx → EReal)
      ∧ r.2.mem ((c.tc : Thread nD τ).loc main_v2_2) = (fun y => XC (X m c) (y 0) (y 1) : S8192x3072.Idx → EReal)
      ∧ r.2.mem ((c.tc : Thread nD τ).loc main_v2_3) = (fun y => XS (X m c) (y 0) (y 1) : S64x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_main_quiescent m ρ)
  obtain ⟨after, hl, ha⟩ := RDat.FramePost.exists_exact h.1 c
  refine ⟨(ha 4).trans (out4 m c _ fun t => ?_), (ha 5).trans (out5 m c _ ?_),
    (ha 6).trans (out6 m c _ fun t => ?_), (ha 7).trans (out7 m c _ ?_),
    ((h.1 c).2 main_arg0 (Pipeline.mem_restRefs_of main_arg0 (by decide) (by decide))).trans (V_main_arg0 m c),
    (RDat.FramePost.arr_in h.1 c 2 rfl).trans ((A_eq m c 2).trans (V_main_arg1 m c)),
    ((h.1 c).2 main_arg2 (Pipeline.mem_restRefs_of main_arg2 (by decide) (by decide))).trans (V_main_arg2 m c)⟩
  · exact leaves4 m c t (hl 4 t (flush0_4 t))
  · exact leaves5 m c _ (hl 5 pLast (by decide +kernel))
  · exact leaves6 m c t (hl 6 t (flush0_6 t))
  · exact leaves7 m c _ (hl 7 pLast (by decide +kernel))

end Cert.KernelIdeal.Hand

end
-- ==== Proof.RefValue.lean ====
module

public import proofs.«01_k».proof.Proof.Target
public import proofs.«01_k».proof.Proof.Gen.ReferenceIdeal.Frame

@[expose] public section

set_option maxRecDepth 16384

/-!
# The reference, entry by entry
-/

noncomputable section

namespace Cert.ReferenceIdeal.Hand

open Cert.ReferenceIdeal Cert.ReferenceIdeal.Gen
open Idealize.ShloMosaic
open Cert.KernelIdeal.Hand (rNum rMin rExp)
open Cert.Target

/-- The maxima over the blocks of the activations. -/
def max1 (v : FVec Ideal S8192x1x3072 .f32) : FVec Ideal S8192x1x1 .f32 :=
  shapeCast S8192x1x1 (multiReduction .maximumf [2] S8192x1 v 0xFF800000#32 reduces_S8192x1x3072_S8192x1 (.inl rfl) rfl) shapeCasts_S8192x1_S8192x1x1
/-- The maxima over the hidden blocks. -/
def max12 (v : FVec Ideal S8192x12x128 .f32) : FVec Ideal S8192x12x1 .f32 :=
  shapeCast S8192x12x1 (multiReduction .maximumf [2] S8192x12 v 0xFF800000#32 reduces_S8192x12x128_S8192x12 (.inl rfl) rfl) shapeCasts_S8192x12_S8192x12x1
/-- The exponents that are tried. -/
def tries : FVec Ideal S1x1x256 .f32 :=
  sitofp (F := Ideal) .f32 (subi (iota .tc S1x1x256 32 [2] iota_S1x1x256_d2_w32) (broadcast S1x1x256 125#32))
/-- The tries of each token. -/
def grid1 (y : FVec Ideal S8192x1x1 .f32) (n : FVec Ideal S1x1x256 .f32) : FVec Ideal S8192x1x256 .f32 :=
  select (cmpf .olt (broadcastTo S8192x1x256 y broadcasts_S8192x1x1_S8192x1x256) (broadcastTo S8192x1x256 (exp2 n) broadcasts_S1x1x256_S8192x1x256))
    (broadcastTo S8192x1x256 (shapeCast S1x1x256 n shapeCasts_S1x1x256_S1x1x256) broadcasts_S1x1x256_S8192x1x256)
    (broadcast S8192x1x256 (Scalar.ofBits (F := Ideal) .f32 0x43000000#32))
/-- The tries of each hidden block. -/
def grid12 (y : FVec Ideal S8192x12x1 .f32) (n : FVec Ideal S1x1x256 .f32) : FVec Ideal S8192x12x256 .f32 :=
  select (cmpf .olt (broadcastTo S8192x12x256 y broadcasts_S8192x12x1_S8192x12x256) (broadcastTo S8192x12x256 (exp2 n) broadcasts_S1x1x256_S8192x12x256))
    (broadcastTo S8192x12x256 (shapeCast S1x1x256 n shapeCasts_S1x1x256_S1x1x256) broadcasts_S1x1x256_S8192x12x256)
    (broadcast S8192x12x256 (Scalar.ofBits (F := Ideal) .f32 0x43000000#32))
/-- Each token's least exponent. -/
def min1 (v : FVec Ideal S8192x1x256 .f32) : FVec Ideal S8192x1x1 .f32 :=
  shapeCast S8192x1x1 (multiReduction .minimumf [2] S8192x1 v 0x7F800000#32 reduces_S8192x1x256_S8192x1 (.inl rfl) rfl) shapeCasts_S8192x1_S8192x1x1
/-- Each hidden block's least exponent. -/
def min12 (v : FVec Ideal S8192x12x256 .f32) : FVec Ideal S8192x12x1 .f32 :=
  shapeCast S8192x12x1 (multiReduction .minimumf [2] S8192x12 v 0x7F800000#32 reduces_S8192x12x256_S8192x12 (.inl rfl) rfl) shapeCasts_S8192x12_S8192x12x1
/-- Each token's exponent. -/
def guard1 (y e : FVec Ideal S8192x1x1 .f32) : FVec Ideal S8192x1x1 .f32 :=
  select (ori (cmpf .olt y (broadcast S8192x1x1 (Scalar.ofBits (F := Ideal) .f32 0x00800000#32)))
    (cmpf .oge y (broadcast S8192x1x1 (Scalar.ofBits (F := Ideal) .f32 0x7E800000#32)))) (broadcast S8192x1x1 (Scalar.ofBits (F := Ideal) .f32 0x00000000#32)) e
/-- Each token's maximum over the greatest code. -/
def over1 (m : FVec Ideal S8192x1x1 .f32) : FVec Ideal S8192x1x1 .f32 := mulf m (broadcast S8192x1x1 (Scalar.ofBits .f32 0x3B124925#32))
/-- Each hidden block's maximum over the greatest code. -/
def over12 (m : FVec Ideal S8192x12x1 .f32) : FVec Ideal S8192x12x1 .f32 := mulf m (broadcast S8192x12x1 (Scalar.ofBits .f32 0x3B124925#32))

/-- The tokens' exponents in stages. -/
theorem pay6_eq (x : Vec Ideal S8192x3072 .bf16) :
    k0_pay6 (F := Ideal) x = guard1 (over1 (max1 (absf (k0_pay5 x)))) (min1 (grid1 (over1 (max1 (absf (k0_pay5 x)))) tries)) := rfl
/-- The hidden blocks' maxima in stages. -/
theorem pay10_eq (a : FVec Ideal S8192x3072 .fp8e4m3) (b : FVec Ideal S8192x1 .f32) (w : Vec Ideal S3072x3072 .fp8e4m3) (z : FVec Ideal S8192x3072 .f32)
    (s : Vec Ideal S1x3072 .f32) : k0_pay10 (F := Ideal) a b w z s = over12 (max12 (absf (k0_pay9 a b w z s))) := rfl
/-- The hidden blocks' least exponents in stages. -/
theorem pay11_eq (a : FVec Ideal S8192x3072 .fp8e4m3) (b : FVec Ideal S8192x1 .f32) (w : Vec Ideal S3072x3072 .fp8e4m3) (z : FVec Ideal S8192x3072 .f32)
    (s : Vec Ideal S1x3072 .f32) : k0_pay11 (F := Ideal) a b w z s = min12 (grid12 (k0_pay10 a b w z s) tries) := rfl

/-- One maximum. -/
theorem max1_apply (v : FVec Ideal S8192x1x3072 .f32) (r : Fin 8192) :
    max1 v (ix3 r 0 0) = Finset.univ.fold max (Ideal.ofBits .f32 0xFF800000#32) fun k : Fin 3072 => v (ix3 r 0 k) := by
  pointwise [max1]
/-- One maximum. -/
theorem max12_apply (v : FVec Ideal S8192x12x128 .f32) (r : Fin 8192) (g : Fin 12) :
    max12 v (ix3 r g 0) = Finset.univ.fold max (Ideal.ofBits .f32 0xFF800000#32) fun k : Fin 128 => v (ix3 r g k) := by
  pointwise [max12]
/-- One exponent that is tried. -/
theorem tries_apply (k : Fin 256) : tries (ix3 0 0 k) = rNum k.val := by
  pointwise [tries, rNum]
/-- One try. -/
theorem grid1_apply (y : FVec Ideal S8192x1x1 .f32) (n : FVec Ideal S1x1x256 .f32) (r : Fin 8192) (k : Fin 256) :
    grid1 y n (ix3 r 0 k) = if y (ix3 r 0 0) < Ideal.exp2 (n (ix3 0 0 k)) then n (ix3 0 0 k) else Ideal.ofBits .f32 0x43000000#32 := by
  pointwise [grid1]
  rfl
/-- One try. -/
theorem grid12_apply (y : FVec Ideal S8192x12x1 .f32) (n : FVec Ideal S1x1x256 .f32) (r : Fin 8192) (g : Fin 12) (k : Fin 256) :
    grid12 y n (ix3 r g k) = if y (ix3 r g 0) < Ideal.exp2 (n (ix3 0 0 k)) then n (ix3 0 0 k) else Ideal.ofBits .f32 0x43000000#32 := by
  pointwise [grid12]
  rfl
/-- One least exponent. -/
theorem min1_apply (v : FVec Ideal S8192x1x256 .f32) (r : Fin 8192) :
    min1 v (ix3 r 0 0) = Finset.univ.fold min (Ideal.ofBits .f32 0x7F800000#32) fun k : Fin 256 => v (ix3 r 0 k) := by
  pointwise [min1]
/-- One least exponent. -/
theorem min12_apply (v : FVec Ideal S8192x12x256 .f32) (r : Fin 8192) (g : Fin 12) :
    min12 v (ix3 r g 0) = Finset.univ.fold min (Ideal.ofBits .f32 0x7F800000#32) fun k : Fin 256 => v (ix3 r g k) := by
  pointwise [min12]
/-- One maximum over the greatest code. -/
theorem over1_apply (m : FVec Ideal S8192x1x1 .f32) (r : Fin 8192) : over1 m (ix3 r 0 0) = m (ix3 r 0 0) * c448 := by
  pointwise [over1, c448]
/-- One maximum over the greatest code. -/
theorem over12_apply (m : FVec Ideal S8192x12x1 .f32) (r : Fin 8192) (g : Fin 12) : over12 m (ix3 r g 0) = m (ix3 r g 0) * c448 := by
  pointwise [over12, c448]

/-- Choosing by either of two comparisons. -/
theorem select_or (p q : Prop) [Decidable p] [Decidable q] (a b : EReal) :
    Scalar.select (IntOp.ori (BitVec.ofBool (decide p)) (BitVec.ofBool (decide q))) a b = if p ∨ q then a else b := by
  by_cases hp : p <;> by_cases hq : q <;> simp [hp, hq, Scalar.select, IntOp.ori]

/-- One exponent. -/
theorem guard1_apply (y e : FVec Ideal S8192x1x1 .f32) (r : Fin 8192) :
    guard1 y e (ix3 r 0 0) = if y (ix3 r 0 0) < Ideal.ofBits .f32 0x00800000#32 ∨ Ideal.ofBits .f32 0x7E800000#32 ≤ y (ix3 r 0 0) then 0
      else e (ix3 r 0 0) := by
  rw [← select_or]
  pointwise [guard1]

/-- The activations as the reference blocks them. -/
theorem pay5_apply (x : Vec Ideal S8192x3072 .bf16) (r : Fin 8192) (k : Fin 3072) : k0_pay5 (F := Ideal) x (ix3 r 0 k) = x (ix2 r k) := by
  pointwise [k0_pay5]

/-- One magnitude. -/
theorem abs1_apply (v : FVec Ideal S8192x1x3072 .f32) (r : Fin 8192) (k : Fin 3072) :
    absf v (ix3 r 0 k) = FloatOps.absf (F := Ideal) (φ := .f32) (v (ix3 r 0 k)) := rfl
/-- One magnitude. -/
theorem abs12_apply (v : FVec Ideal S8192x12x128 .f32) (r : Fin 8192) (g : Fin 12) (k : Fin 128) :
    absf v (ix3 r g k) = FloatOps.absf (F := Ideal) (φ := .f32) (v (ix3 r g k)) := rfl

/-- One token's activations. -/
def row (x : Vec Ideal S8192x3072 .bf16) (r : Fin 8192) (k : Fin 3072) : EReal := x (ix2 r k)

/-- One token's maximum. -/
theorem y1_apply (x : Vec Ideal S8192x3072 .bf16) (r : Fin 8192) :
    over1 (max1 (absf (k0_pay5 (F := Ideal) x))) (ix3 r 0 0) = amax (row x r) := by
  rw [over1_apply, max1_apply, ofBits_bot]
  unfold amax
  refine congrArg (fun f : Fin 3072 → EReal => Finset.univ.fold max ⊥ f * c448) (funext fun k => ?_)
  rw [abs1_apply, pay5_apply]
  rfl

/-- One token's exponent. -/
theorem pay6_apply (x : Vec Ideal S8192x3072 .bf16) (r : Fin 8192) : k0_pay6 (F := Ideal) x (ix3 r 0 0) = ex (row x r) := by
  rw [pay6_eq, guard1_apply, min1_apply, y1_apply]
  have h : (fun k : Fin 256 => grid1 (over1 (max1 (absf (k0_pay5 (F := Ideal) x)))) tries (ix3 r 0 k))
      = fun l : Fin 256 => if amax (row x r) < Ideal.exp2 (rNum l.val) then rNum l.val else Ideal.ofBits .f32 0x43000000#32 :=
    funext fun k => by rw [grid1_apply, y1_apply, tries_apply]
  rw [h]
  rfl

/-- Subtracting a row of exponents from zero. -/
theorem neg1_apply (e : FVec Ideal S8192x1x1 .f32) (v : FVec Ideal S8192x1x3072 .f32) (r : Fin 8192) (k : Fin 3072) :
    truncf .fp8e4m3 (shapeCast S8192x3072 (minimumf (broadcast S8192x1x3072 (Scalar.ofBits (F := Ideal) .f32 0x43E00000#32))
      (maximumf (broadcast S8192x1x3072 (Scalar.ofBits (F := Ideal) .f32 0xC3E00000#32)) (mulf v (broadcastTo S8192x1x3072
        (exp2 (subf (broadcast S8192x1x1 (Scalar.ofBits (F := Ideal) .f32 0x00000000#32)) e)) broadcasts_S8192x1x1_S8192x1x3072))))
      shapeCasts_S8192x1x3072_S8192x3072) bitsLt_fp8e4m3_f32 (ix2 r k) = clip (v (ix3 r 0 k) * Ideal.exp2 (0 - e (ix3 r 0 0))) := by
  pointwise [clip]
  rfl

/-- One code of the activations. -/
theorem pay7_apply (x : Vec Ideal S8192x3072 .bf16) (r : Fin 8192) (k : Fin 3072) : k0_pay7 (F := Ideal) x (ix2 r k) = code (row x r) k := by
  have h := neg1_apply (k0_pay6 x) (k0_pay5 x) r k
  rw [pay5_apply, pay6_apply] at h
  exact h

/-- Scales from exponents. -/
theorem scales1_apply (e : FVec Ideal S8192x1x1 .f32) (r : Fin 8192) :
    shapeCast S8192x1 (exp2 e) shapeCasts_S8192x1x1_S8192x1 (ix2 r 0) = Ideal.exp2 (e (ix3 r 0 0)) := by
  pointwise
  rfl

/-- One scale of the activations. -/
theorem pay8_apply (x : Vec Ideal S8192x3072 .bf16) (r : Fin 8192) : k0_pay8 (F := Ideal) x (ix2 r 0) = scale (row x r) := by
  have h := scales1_apply (k0_pay6 x) r
  rw [pay6_apply] at h
  exact h

/-- One entry of the projection. -/
theorem proj_apply (a : FVec Ideal S8192x3072 .fp8e4m3) (b : FVec Ideal S8192x1 .f32) (w : FVec Ideal S3072x3072 .fp8e4m3)
    (s : FVec Ideal S1x3072 .f32) (r : Fin 8192) (c : Fin 3072) :
    mulf (mulf (matmul (F := Ideal) dot_S8192x3072_S3072x3072_S8192x3072_1_0_0_1_n_n none a w (constant S8192x3072 .f32 0x00000000#32))
      (broadcastTo S8192x3072 b broadcasts_S8192x1_S8192x3072)) (broadcastTo S8192x3072 (shapeCast S1x3072 s shapeCasts_S1x3072_S1x3072)
        broadcasts_S1x3072_S8192x3072) (ix2 r c) = (∑ k : Fin 3072, a (ix2 r k) * w (ix2 k c)) * b (ix2 r 0) * s (ix2 0 c) := by
  pointwise [dot_S8192x3072_S3072x3072_S8192x3072_1_0_0_1_n_n]

/-- The projection. -/
def projArr (a : FVec Ideal S8192x3072 .fp8e4m3) (b : FVec Ideal S8192x1 .f32) (w : FVec Ideal S3072x3072 .fp8e4m3)
    (s : FVec Ideal S1x3072 .f32) : FVec Ideal S8192x3072 .f32 :=
  mulf (mulf (matmul (F := Ideal) dot_S8192x3072_S3072x3072_S8192x3072_1_0_0_1_n_n none a w (constant S8192x3072 .f32 0x00000000#32))
      (broadcastTo S8192x3072 b broadcasts_S8192x1_S8192x3072)) (broadcastTo S8192x3072 (shapeCast S1x3072 s shapeCasts_S1x3072_S1x3072)
        broadcasts_S1x3072_S8192x3072)

/-- The gated hidden units of a gate and an up array. -/
def actArr (g u : FVec Ideal S8192x1536 .f32) : FVec Ideal S8192x1536 .f32 :=
  mulf (mulf g (mulf (broadcast S8192x1536 (Scalar.ofBits .f32 0x3F000000#32)) (addf (broadcast S8192x1536 (Scalar.ofBits .f32 0x3F800000#32))
    (tanh (mulf (broadcast S8192x1536 (Scalar.ofBits .f32 0x3F4C422A#32)) (addf g (mulf (broadcast S8192x1536 (Scalar.ofBits .f32 0x3D372713#32))
      (mulf g (mulf g g))))))))) u

/-- The hidden units in stages. -/
theorem pay9_eq (a : FVec Ideal S8192x3072 .fp8e4m3) (b : FVec Ideal S8192x1 .f32) (w : Vec Ideal S3072x3072 .fp8e4m3)
    (s : Vec Ideal S1x3072 .f32) : k0_pay9 (F := Ideal) a b w (constant S8192x3072 .f32 0x00000000#32) s =
      shapeCast S8192x12x128 (actArr (extractStridedSlice S8192x1536 ![0, 0] (projArr a b w s) slices_S8192x3072_o0_0_S8192x1536)
        (extractStridedSlice S8192x1536 ![0, 1536] (projArr a b w s) slices_S8192x3072_o0_1536_S8192x1536)) shapeCasts_S8192x1536_S8192x12x128 := rfl

/-- One hidden unit. -/
theorem actArr_apply (g u : FVec Ideal S8192x1536 .f32) (r : Fin 8192) (n : Fin 1536) : actArr g u (ix2 r n) = act (g (ix2 r n)) (u (ix2 r n)) := by
  pointwise [actArr, act]

/-- One gate. -/
theorem gate_apply (v : FVec Ideal S8192x3072 .f32) (r : Fin 8192) (k : Fin 1536) :
    extractStridedSlice S8192x1536 ![0, 0] v slices_S8192x3072_o0_0_S8192x1536 (ix2 r k) = v (ix2 r ⟨k.val, by omega⟩) := by
  pointwise

/-- One up number. -/
theorem up_apply (v : FVec Ideal S8192x3072 .f32) (r : Fin 8192) (k : Fin 1536) :
    extractStridedSlice S8192x1536 ![0, 1536] v slices_S8192x3072_o0_1536_S8192x1536 (ix2 r k) = v (ix2 r ⟨1536 + k.val, by omega⟩) := by
  pointwise

/-- The hidden units in blocks. -/
theorem blocks_apply (v : FVec Ideal S8192x1536 .f32) (r : Fin 8192) (g : Fin 12) (l : Fin 128) :
    shapeCast S8192x12x128 v shapeCasts_S8192x1536_S8192x12x128 (ix3 r g l) = v (ix2 r ⟨g.val * 128 + l.val, by omega⟩) := by
  pointwise

end Cert.ReferenceIdeal.Hand

end
-- ==== Proof.RefHid.lean ====
module

public import proofs.«01_k».proof.Proof.RefValue

@[expose] public section

set_option maxRecDepth 16384

/-!
# The reference's hidden units, entry by entry
-/

noncomputable section

namespace Cert.ReferenceIdeal.Hand

open Cert.ReferenceIdeal Cert.ReferenceIdeal.Gen
open Idealize.ShloMosaic
open Cert.KernelIdeal.Hand (rNum rMin rExp)
open Cert.Target

variable (x : Vec Ideal S8192x3072 .bf16) (w : Vec Ideal S3072x3072 .fp8e4m3) (s : Vec Ideal S1x3072 .f32)

/-- The weight codes. -/
def wgt (k c : Fin 3072) : EReal := w (ix2 k c)
/-- The weights' scales. -/
def wscale (c : Fin 3072) : EReal := s (ix2 0 c)

/-- The reference's hidden units. -/
def hArr : FVec Ideal S8192x12x128 .f32 := k0_pay9 (F := Ideal) (k0_pay7 x) (k0_pay8 x) w (constant S8192x3072 .f32 0x00000000#32) s

/-- The projection of token `r`. -/
theorem projArr_apply (r : Fin 8192) (c : Fin 3072) :
    projArr (k0_pay7 x) (k0_pay8 x) w s (ix2 r c) = proj (row x r) (wgt w) (wscale s) c := by
  have h := proj_apply (k0_pay7 x) (k0_pay8 x) w s r c
  rw [pay8_apply] at h
  refine h.trans ?_
  unfold proj
  refine congrArg (· * scale (row x r) * wscale s c) (Finset.sum_congr rfl fun k _ => ?_)
  rw [pay7_apply]
  rfl

/-- One hidden unit. -/
theorem hArr_apply (r : Fin 8192) (g : Fin 12) (l : Fin 128) :
    hArr x w s (ix3 r g l) = hid (row x r) (wgt w) (wscale s) g l := by
  unfold hArr
  rw [pay9_eq, blocks_apply, actArr_apply, gate_apply, up_apply, projArr_apply, projArr_apply]
  unfold hid
  have e : g.val * 128 + l.val = 128 * g.val + l.val := by omega
  simp only [e]

/-- The block of hidden units of one token. -/
abbrev hblock (r : Fin 8192) (g : Fin 12) : Fin 128 → EReal := hid (row x r) (wgt w) (wscale s) g

/-- The hidden blocks' maxima over the greatest code. -/
def yArr : FVec Ideal S8192x12x1 .f32 := k0_pay10 (F := Ideal) (k0_pay7 x) (k0_pay8 x) w (constant S8192x3072 .f32 0x00000000#32) s

/-- One hidden block's maximum over the greatest code. -/
theorem yArr_apply (r : Fin 8192) (g : Fin 12) : yArr x w s (ix3 r g 0) = amax (hblock x w s r g) := by
  unfold yArr
  rw [pay10_eq, over12_apply, max12_apply, ofBits_bot]
  unfold amax
  refine congrArg (fun f : Fin 128 → EReal => Finset.univ.fold max ⊥ f * c448) (funext fun k => ?_)
  rw [abs12_apply]
  exact congrArg (FloatOps.absf (F := Ideal) (φ := .f32)) (hArr_apply x w s r g k)

/-- The hidden blocks' least exponents. -/
def eArr : FVec Ideal S8192x12x1 .f32 := k0_pay11 (F := Ideal) (k0_pay7 x) (k0_pay8 x) w (constant S8192x3072 .f32 0x00000000#32) s

/-- One hidden block's least exponent. -/
theorem eArr_apply (r : Fin 8192) (g : Fin 12) : eArr x w s (ix3 r g 0) = rMin (amax (hblock x w s r g)) := by
  unfold eArr
  rw [pay11_eq, min12_apply]
  unfold rMin
  refine congrArg (Finset.univ.fold min (Ideal.ofBits .f32 0x7F800000#32)) (funext fun k => ?_)
  rw [grid12_apply, tries_apply]
  have h := yArr_apply x w s r g
  unfold yArr at h
  rw [h]

/-- The guard bits of the hidden blocks. -/
def lowBits : IVec S8192x12x1 1 := k0_pay12 (F := Ideal) (k0_pay7 x) (k0_pay8 x) w (constant S8192x3072 .f32 0x00000000#32) s
/-- The guard bits of the hidden blocks. -/
def highBits : IVec S8192x12x1 1 := k0_pay13 (F := Ideal) (k0_pay7 x) (k0_pay8 x) w (constant S8192x3072 .f32 0x00000000#32) s

/-- One comparison with the least normal number. -/
theorem low_apply (y : FVec Ideal S8192x12x1 .f32) (r : Fin 8192) (g : Fin 12) :
    cmpf .olt y (broadcast S8192x12x1 (Scalar.ofBits (F := Ideal) .f32 0x00800000#32)) (ix3 r g 0)
      = BitVec.ofBool (decide (y (ix3 r g 0) < Ideal.ofBits .f32 0x00800000#32)) := by
  pointwise
/-- One comparison with the number from which on the scale is one. -/
theorem high_apply (y : FVec Ideal S8192x12x1 .f32) (r : Fin 8192) (g : Fin 12) :
    cmpf .oge y (broadcast S8192x12x1 (Scalar.ofBits (F := Ideal) .f32 0x7E800000#32)) (ix3 r g 0)
      = BitVec.ofBool (decide (Ideal.ofBits .f32 0x7E800000#32 ≤ y (ix3 r g 0))) := by
  pointwise

/-- One guarded exponent. -/
theorem pay1_apply (e : FVec Ideal S8192x12x1 .f32) (p q : IVec S8192x12x1 1) (r : Fin 8192) (g : Fin 12) :
    k0_pay1 (F := Ideal) e p q (ix3 r g 0) = Scalar.select (IntOp.ori (p (ix3 r g 0)) (q (ix3 r g 0))) 0 (e (ix3 r g 0)) := by
  pointwise [k0_pay1]

/-- One hidden block's exponent. -/
theorem exArr_apply (r : Fin 8192) (g : Fin 12) :
    k0_pay1 (F := Ideal) (eArr x w s) (lowBits x w s) (highBits x w s) (ix3 r g 0) = ex (hblock x w s r g) := by
  have h1 := low_apply (yArr x w s) r g
  have h2 := high_apply (yArr x w s) r g
  rw [yArr_apply] at h1 h2
  rw [pay1_apply, eArr_apply]
  refine (congrArg₂ (fun a b => Scalar.select (IntOp.ori a b) 0 (rMin (amax (hblock x w s r g)))) h1 h2).trans ?_
  exact select_or _ _ _ _

/-- One code from a block's exponent. -/
theorem codes_apply (h : FVec Ideal S8192x12x128 .f32) (e : FVec Ideal S8192x12x1 .f32) (r : Fin 8192) (n : Fin 1536) :
    truncf .fp8e4m3 (shapeCast S8192x1536 (minimumf (broadcast S8192x12x128 (Scalar.ofBits (F := Ideal) .f32 0x43E00000#32))
      (maximumf (broadcast S8192x12x128 (Scalar.ofBits (F := Ideal) .f32 0xC3E00000#32)) (mulf h (broadcastTo S8192x12x128
        (exp2 (subf (broadcast S8192x12x1 (Scalar.ofBits (F := Ideal) .f32 0x00000000#32)) e)) broadcasts_S8192x12x1_S8192x12x128))))
      shapeCasts_S8192x12x128_S8192x1536) bitsLt_fp8e4m3_f32 (ix2 r n)
      = clip (h (ix3 r ⟨n.val / 128, by omega⟩ ⟨n.val % 128, by omega⟩) * Ideal.exp2 (0 - e (ix3 r ⟨n.val / 128, by omega⟩ 0))) := by
  pointwise [clip]
  rfl

/-- One code of the hidden units. -/
theorem hc_apply (r : Fin 8192) (n : Fin 1536) :
    k0_pay2 (F := Ideal) (hArr x w s) (eArr x w s) (lowBits x w s) (highBits x w s) (ix2 r n)
      = code (hblock x w s r ⟨n.val / 128, by omega⟩) ⟨n.val % 128, by omega⟩ := by
  have h := codes_apply (hArr x w s) (k0_pay1 (F := Ideal) (eArr x w s) (lowBits x w s) (highBits x w s)) r n
  rw [hArr_apply, exArr_apply] at h
  exact h

/-- One scale from an array of exponents. -/
theorem scales_apply (e : FVec Ideal S8192x12x1 .f32) (q : Fin 768) (l : Fin 128) :
    shapeCast S768x128 (transpose S12x16x4x128 [3, 1, 0, 2] (shapeCast S4x16x128x12 (shapeCast S8192x12 (exp2 e) shapeCasts_S8192x12x1_S8192x12)
      shapeCasts_S8192x12_S4x16x128x12) transposes_S4x16x128x12_p3_1_0_2_S12x16x4x128) shapeCasts_S12x16x4x128_S768x128 (ix2 q l)
      = Ideal.exp2 (e (ix3 ⟨q.val % 4 * 2048 + q.val / 4 % 16 * 128 + l.val, by omega⟩ ⟨q.val / 64, by omega⟩ 0)) := by
  pointwise
  rfl

/-- One scale of the hidden units. -/
theorem hs_apply (q : Fin 768) (l : Fin 128) :
    k0_pay3 (F := Ideal) (eArr x w s) (lowBits x w s) (highBits x w s) (ix2 q l)
      = scale (hblock x w s ⟨q.val % 4 * 2048 + q.val / 4 % 16 * 128 + l.val, by omega⟩ ⟨q.val / 64, by omega⟩) := by
  have h := scales_apply (k0_pay1 (F := Ideal) (eArr x w s) (lowBits x w s) (highBits x w s)) q l
  rw [exArr_apply] at h
  exact h

/-- One scale of the activations, as the array is laid out. -/
theorem xs_apply (q : Fin 64) (l : Fin 128) :
    k0_pay4 (F := Ideal) (k0_pay8 x) (ix2 q l) = scale (row x ⟨q.val * 128 + l.val, by omega⟩) := by
  rw [← pay8_apply]
  pointwise [k0_pay4]

end Cert.ReferenceIdeal.Hand

end
-- ==== Proof.RefOut.lean ====
module

public import proofs.«01_k».proof.Proof.RefHid
public import Idealize.ShloMosaic.Lib.Pipeline.Value
public import Idealize.ShloMosaic.Lib.Pipeline.ValueKit

@[expose] public section

set_option maxRecDepth 16384

/-!
# The reference's results after its run
-/

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)
open Cert.Target

/-- Every position of a table lies in its rectangle at the origin. -/
theorem zero2 : (![0, 0] : Fin 2 → ℕ) = fun _ => 0 := by decide

section Blocks
variable (x : Vec Ideal S8192x3072 .bf16) (w : Vec Ideal S3072x3072 .fp8e4m3) (s : Vec Ideal S1x3072 .f32)

/-- The block of hidden codes the body leaves. -/
theorem out3_eq : out0_3 (F := Ideal) x w s = k0_pay2 (F := Ideal) (hArr x w s) (eArr x w s) (lowBits x w s) (highBits x w s) := by
  unfold out0_3 k0_pay19 k0_pay18 k0_pay17 k0_pay16 k0_pay15 k0_pay14
  unfold r0_3 r0_0 r0_1 r0_2
  rw [View.canon_unit_zero zero2, View.ld_unit_zero zero2, View.ld_unit_zero zero2, View.ld_unit_zero zero2]
  rfl

/-- The block of hidden scales the body leaves. -/
theorem out4_eq : out0_4 (F := Ideal) x w s = k0_pay3 (F := Ideal) (eArr x w s) (lowBits x w s) (highBits x w s) := by
  unfold out0_4 k0_pay19 k0_pay18 k0_pay17 k0_pay16 k0_pay15 k0_pay14
  unfold r0_4 r0_0 r0_1 r0_2
  rw [View.canon_unit_zero zero2, View.ld_unit_zero zero2, View.ld_unit_zero zero2, View.ld_unit_zero zero2]
  rfl

/-- The block of the activations' codes the body leaves. -/
theorem out5_eq : out0_5 (F := Ideal) x w s = k0_pay7 (F := Ideal) x := by
  unfold out0_5 k0_pay15
  unfold r0_0
  rw [View.canon_unit_zero zero2, View.ld_unit_zero zero2]

/-- The block of the activations' scales the body leaves. -/
theorem out6_eq : out0_6 (F := Ideal) x w s = k0_pay4 (F := Ideal) (k0_pay8 x) := by
  unfold out0_6 k0_pay16
  unfold r0_5 r0_0
  rw [View.canon_unit_zero zero2, View.ld_unit_zero zero2]

end Blocks

variable (m : (ℓ : Loc nD τ sig) → Buf (Elt Ideal) ℓ) (ρ : Dev nD → PrngReg)

/-- The activations as the kernel finds them: one row per token. -/
def argX (c : Dev nD) : Vec Ideal S8192x3072 .bf16 :=
  shapeCast S8192x3072 (m ((c : Thread nD τ).loc main_arg0) : Vec Ideal S4x2048x3072 .bf16) shapeCasts_S4x2048x3072_S8192x3072
/-- The weight codes. -/
def argW (c : Dev nD) : Vec Ideal S3072x3072 .fp8e4m3 := m ((c : Thread nD τ).loc main_arg1)
/-- The weights' scales as the kernel finds them: one row. -/
def argS (c : Dev nD) : Vec Ideal S1x3072 .f32 :=
  shapeCast S1x3072 (m ((c : Thread nD τ).loc main_arg2) : Vec Ideal S3072 .f32) shapeCasts_S3072_S1x3072

/-- The activations' table is the argument's numbers in order. -/
theorem V_v0 (c : Dev nD) : V m c main_v0 = argX m c := rfl
/-- The scales' row is the argument's numbers in order. -/
theorem V_v1 (c : Dev nD) : V m c main_v1 = argS m c := rfl

/-- The one grid point. -/
def p0 : Fin cfg0.N := ⟨0, by decide⟩

/-- A whole array's only block is at the origin. -/
theorem idx0 : ∀ a, win0_0.index p0 a = 0 := by decide +kernel
/-- A whole array's only block is at the origin. -/
theorem idx1 : ∀ a, win0_1.index p0 a = 0 := by decide +kernel
/-- A whole array's only block is at the origin. -/
theorem idx2 : ∀ a, win0_2.index p0 a = 0 := by decide +kernel

/-- The one grid point finds the whole table of activations, -/
theorem iblk0_eq (c : Dev nD) : iblk m c 0 p0 = argX m c := by
  rw [← V_v0]
  funext y
  blk_simp [iblk]
  congr 1
  blk_ext [idx0]
/-- the whole table of weight codes, -/
theorem iblk1_eq (c : Dev nD) : iblk m c 1 p0 = argW m c := by
  refine Eq.trans ?_ (V_main_arg1 m c)
  funext y
  blk_simp [iblk]
  congr 1
  blk_ext [idx1]
/-- and the whole row of scales. -/
theorem iblk2_eq (c : Dev nD) : iblk m c 2 p0 = argS m c := by
  rw [← V_v1]
  funext y
  blk_simp [iblk]
  congr 1
  blk_ext [idx2]

end Cert.ReferenceIdeal.Hand

end
-- ==== Proof.RefRun.lean ====
module

public import proofs.«01_k».proof.Proof.RefOut

@[expose] public section

set_option maxRecDepth 16384

/-!
# The reference's run
-/

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)
open Cert.Target

variable (m : (ℓ : Loc nD τ sig) → Buf (Elt Ideal) ℓ) (ρ : Dev nD → PrngReg)

/-- The hidden codes as one table. -/
theorem hc_all (x : Vec Ideal S8192x3072 .bf16) (w : Vec Ideal S3072x3072 .fp8e4m3) (s : Vec Ideal S1x3072 .f32) (y : S8192x1536.Idx) :
    k0_pay2 (F := Ideal) (hArr x w s) (eArr x w s) (lowBits x w s) (highBits x w s) y
      = HC (fun r => row x r) (wgt w) (wscale s) (y 0) (y 1) := by
  have h := hc_apply x w s (y 0) (y 1)
  rw [← eq_ix2 y] at h
  exact h

/-- The hidden scales as one table. -/
theorem hs_all (x : Vec Ideal S8192x3072 .bf16) (w : Vec Ideal S3072x3072 .fp8e4m3) (s : Vec Ideal S1x3072 .f32) (y : S768x128.Idx) :
    k0_pay3 (F := Ideal) (eArr x w s) (lowBits x w s) (highBits x w s) y
      = HS (fun r => row x r) (wgt w) (wscale s) (y 0) (y 1) := by
  have h := hs_apply x w s (y 0) (y 1)
  rw [← eq_ix2 y] at h
  exact h

/-- The activations' codes as one table. -/
theorem xc_all (x : Vec Ideal S8192x3072 .bf16) (y : S8192x3072.Idx) :
    k0_pay7 (F := Ideal) x y = XC (fun r => row x r) (y 0) (y 1) := by
  have h := pay7_apply x (y 0) (y 1)
  rw [← eq_ix2 y] at h
  exact h

/-- The activations' scales as one table. -/
theorem xs_all (x : Vec Ideal S8192x3072 .bf16) (y : S64x128.Idx) :
    k0_pay4 (F := Ideal) (k0_pay8 x) y = XS (fun r => row x r) (y 0) (y 1) := by
  have h := xs_apply x (y 0) (y 1)
  rw [← eq_ix2 y] at h
  exact h

/-- The activations, token by token. -/
abbrev X (c : Dev nD) : Fin 8192 → Fin 3072 → EReal := fun r => row (argX m c) r

/-- The hidden codes after the run. -/
theorem final3 (c : Dev nD) : (dats m 0 c).arrAt 3 cfg0.N
    = (fun y => HC (X m c) (wgt (argW m c)) (wscale (argS m c)) (y 0) (y 1) : S8192x1536.Idx → EReal) := by
  refine (dats m 0 c).arrAt_eq_of_after_last 3 p0 (by decide +kernel) _ fun j => ?_
  blk_simp
  rw [after0_3, iblk0_eq, iblk1_eq, iblk2_eq, out3_eq]
  exact hc_all _ _ _ j

/-- The hidden scales after the run. -/
theorem final4 (c : Dev nD) : (dats m 0 c).arrAt 4 cfg0.N
    = (fun y => HS (X m c) (wgt (argW m c)) (wscale (argS m c)) (y 0) (y 1) : S768x128.Idx → EReal) := by
  refine (dats m 0 c).arrAt_eq_of_after_last 4 p0 (by decide +kernel) _ fun j => ?_
  blk_simp
  rw [after0_4, iblk0_eq, iblk1_eq, iblk2_eq, out4_eq]
  exact hs_all _ _ _ j

/-- The activations' codes after the run. -/
theorem final5 (c : Dev nD) : (dats m 0 c).arrAt 5 cfg0.N
    = (fun y => XC (X m c) (y 0) (y 1) : S8192x3072.Idx → EReal) := by
  refine (dats m 0 c).arrAt_eq_of_after_last 5 p0 (by decide +kernel) _ fun j => ?_
  blk_simp
  rw [after0_5, iblk0_eq, iblk1_eq, iblk2_eq, out5_eq]
  exact xc_all _ j

/-- The activations' scales after the run. -/
theorem final6 (c : Dev nD) : (dats m 0 c).arrAt 6 cfg0.N
    = (fun y => XS (X m c) (y 0) (y 1) : S64x128.Idx → EReal) := by
  refine (dats m 0 c).arrAt_eq_of_after_last 6 p0 (by decide +kernel) _ fun j => ?_
  blk_simp
  rw [after0_6, iblk0_eq, iblk1_eq, iblk2_eq, out6_eq]
  exact xs_all _ j

/-- The reference's run: its results, its arguments unchanged. -/
theorem run : θ_run defs (onTc (τ := τ) (main (F := Ideal))) ⟨m, fun _ => 0, ρ⟩ fun r => ∀ c : Dev nD,
      r.2.mem ((c.tc : Thread nD τ).loc main_v2_0) = (fun y => HC (X m c) (wgt (argW m c)) (wscale (argS m c)) (y 0) (y 1) : S8192x1536.Idx → EReal)
      ∧ r.2.mem ((c.tc : Thread nD τ).loc main_v2_1) = (fun y => HS (X m c) (wgt (argW m c)) (wscale (argS m c)) (y 0) (y 1) : S768x128.Idx → EReal)
      ∧ r.2.mem ((c.tc : Thread nD τ).loc main_v2_2) = (fun y => XC (X m c) (y 0) (y 1) : S8192x3072.Idx → EReal)
      ∧ r.2.mem ((c.tc : Thread nD τ).loc main_v2_3) = (fun y => XS (X m c) (y 0) (y 1) : S64x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final3 m c), ((h c).1 4).trans (final4 m c),
      ((h c).1 5).trans (final5 m c), ((h c).1 6).trans (final6 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.ReferenceIdeal.Hand

end
-- ==== Proof.Algebraic.lean ====
module

public import proofs.«01_k».proof.Defs
public import proofs.«01_k».proof.Proof.KerRun
public import proofs.«01_k».proof.Proof.RefRun

@[expose] public section

set_option maxRecDepth 16384

/-!
# The kernel and the reference leave the same results
-/

noncomputable section

namespace Cert.Proof

open Idealize.ShloMosaic Idealize.ShloMosaic.TcCoe Idealize.SL.Sem
open Cert.Target

/-- Equal arguments make equal activations, -/
theorem X_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Hand.X m' c = Cert.KernelIdeal.Hand.X m c := by
  have e : Cert.ReferenceIdeal.Hand.argX m' c = Cert.KernelIdeal.Hand.argX m c := by
    unfold Cert.ReferenceIdeal.Hand.argX
    rw [h]
    rfl
  funext r k
  exact congrFun e (ix2 r k)

/-- equal weight codes, -/
theorem W_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Hand.wgt (Cert.ReferenceIdeal.Hand.argW m' c) = Cert.KernelIdeal.Hand.wgt (Cert.KernelIdeal.Hand.argW m c) := by
  funext k n
  exact congrFun h (ix2 k n)

/-- and equal weight scales. -/
theorem S_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Hand.wscale (Cert.ReferenceIdeal.Hand.argS m' c) = Cert.KernelIdeal.Hand.wscale (Cert.KernelIdeal.Hand.argS m c) := by
  have e : Cert.ReferenceIdeal.Hand.argS m' c = Cert.KernelIdeal.Hand.argS m c := by
    unfold Cert.ReferenceIdeal.Hand.argS
    rw [h]
    rfl
  funext n
  exact congrFun e (ix2 0 n)

/-- From equal arguments the kernel and the reference leave equal results. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, _, _, _, Cert.KernelIdeal.Hand.run m g, (θ_run _ _ _).mono (fun r h c => ?_) (Cert.ReferenceIdeal.Hand.run m' g')⟩
  obtain ⟨h0, h1, h2, h3, ha⟩ := h c
  obtain ⟨e0, e1, e2⟩ := hagree c
  rw [X_eq m m' c e0, W_eq m m' c e1, S_eq m m' c e2] at h0 h1
  rw [X_eq m m' c e0] at h2 h3
  exact ⟨h0, h1, h2, h3, ha⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.K.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims: each program runs to its end from any memory, leaves its arguments as they were and every counter at zero,
and the kernel and the reference leave equal results. -/
theorem claim : Cert.Claim :=
  ⟨Cert.Kernel.Gen.facts, Cert.KernelIdeal.Gen.facts, Cert.ReferenceIdeal.Gen.facts,
    fun m ρ _ => Cert.Kernel.Hand.frame m ρ,
    fun m ρ _ => Cert.KernelIdeal.Hand.frame m ρ,
    fun m ρ _ => Cert.ReferenceIdeal.Gen.frame m ρ,
    trivial, algebraic⟩

end Cert.Proof

end
